-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x32x64 : Shape := ⟨4, ![2, 512, 32, 64]⟩
abbrev S512x768 : Shape := ⟨2, ![512, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x32x64 : S_.BroadcastsInDim S2x512x32x64 (![] : Fin 0 → Fin S2x512x32x64.rank)

variable [Facts]

def fn {F : FTy → Type} [FloatOps F] (main_arg0 : FVec F S2x512x768 .bf16) (main_arg1 : FVec F S768x512 .bf16) (main_arg2 : FVec F S2x512x32x64 .bf16) (main_arg3 : FVec F S2x512x32x64 .bf16) (main_arg4 : FVec F S512x768 .bf16) : IVec S2x512x768 1 × IVec S768x512 1 × IVec S2x512x32x64 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_v4 : FVec F S768x512 .f32 := (extf .f32 · bitsLt_bf16_f32) main_arg1
  let main_v5 : FVec F S768x512 .f32 := Host.absf main_v4
  let main_cst_0 : FVec F S_ .f32 := constant S_ .f32 0x7F800000#32
  let main_v6 : FVec F S768x512 .f32 := broadcastInDim S768x512 ![] bcast_S_S768x512 main_cst_0
  let main_v7 : IVec S768x512 1 := cmpf .olt main_v5 main_v6
  let main_v8 : FVec F S2x512x32x64 .f32 := (extf .f32 · bitsLt_bf16_f32) main_arg2
  let main_v9 : FVec F S2x512x32x64 .f32 := Host.absf main_v8
  let main_cst_1 : FVec F S_ .f32 := constant S_ .f32 0x7F800000#32
  let main_v10 : FVec F S2x512x32x64 .f32 := broadcastInDim S2x512x32x64 ![] bcast_S_S2x512x32x64 main_cst_1
  let main_v11 : IVec S2x512x32x64 1 := cmpf .olt main_v9 main_v10
  (main_v3, main_v7, main_v11)
-- ==== Pre_finite_ReferenceIdeal.lean ====
abbrev S2x512x768 : Shape := ⟨3, ![2, 512, 768]⟩
abbrev S768x2048 : Shape := ⟨2, ![768, 2048]⟩
abbrev S2x512x32x64 : Shape := ⟨4, ![2, 512, 32, 64]⟩
abbrev S2048x768 : Shape := ⟨2, ![2048, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  bcast_S_S768x2048 : S_.BroadcastsInDim S768x2048 (![] : Fin 0 → Fin S768x2048.rank)
  bcast_S_S2x512x32x64 : S_.BroadcastsInDim S2x512x32x64 (![] : Fin 0 → Fin S2x512x32x64.rank)

variable [Facts]

def fn {F : FTy → Type} [FloatOps F] (main_arg0 : FVec F S2x512x768 .bf16) (main_arg1 : FVec F S768x2048 .bf16) (main_arg2 : FVec F S2x512x32x64 .bf16) (main_arg3 : FVec F S2x512x32x64 .bf16) (main_arg4 : FVec F S2048x768 .bf16) : IVec S2x512x768 1 × IVec S768x2048 1 × IVec S2x512x32x64 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_v4 : FVec F S768x2048 .f32 := (extf .f32 · bitsLt_bf16_f32) main_arg1
  let main_v5 : FVec F S768x2048 .f32 := Host.absf main_v4
  let main_cst_0 : FVec F S_ .f32 := constant S_ .f32 0x7F800000#32
  let main_v6 : FVec F S768x2048 .f32 := broadcastInDim S768x2048 ![] bcast_S_S768x2048 main_cst_0
  let main_v7 : IVec S768x2048 1 := cmpf .olt main_v5 main_v6
  let main_v8 : FVec F S2x512x32x64 .f32 := (extf .f32 · bitsLt_bf16_f32) main_arg2
  let main_v9 : FVec F S2x512x32x64 .f32 := Host.absf main_v8
  let main_cst_1 : FVec F S_ .f32 := constant S_ .f32 0x7F800000#32
  let main_v10 : FVec F S2x512x32x64 .f32 := broadcastInDim S2x512x32x64 ![] bcast_S_S2x512x32x64 main_cst_1
  let main_v11 : IVec S2x512x32x64 1 := cmpf .olt main_v9 main_v10
  (main_v3, main_v7, main_v11)
-- ==== Kernel.lean ====
abbrev S2x512x768 : Shape := ⟨3, ![2, 512, 768]⟩
abbrev S768x512 : Shape := ⟨2, ![768, 512]⟩
abbrev S2x512x32x64 : Shape := ⟨4, ![2, 512, 32, 64]⟩
abbrev S512x768 : Shape := ⟨2, ![512, 768]⟩
abbrev S_ : Shape := ⟨0, ![]⟩
abbrev S2x512x8x64 : Shape := ⟨4, ![2, 512, 8, 64]⟩
abbrev S2x8x512x64 : Shape := ⟨4, ![2, 8, 512, 64]⟩
abbrev S16x512x64 : Shape := ⟨3, ![16, 512, 64]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1024x768 : Shape := ⟨2, ![1024, 768]⟩
abbrev S3x256x768 : Shape := ⟨3, ![3, 256, 768]⟩
abbrev S256x768 : Shape := ⟨2, ![256, 768]⟩
abbrev S3 : Shape := ⟨1, ![3]⟩
abbrev S256x512 : Shape := ⟨2, ![256, 512]⟩
abbrev S256x64 : Shape := ⟨2, ![256, 64]⟩
abbrev S1x512x64 : Shape := ⟨3, ![1, 512, 64]⟩
abbrev S512x64 : Shape := ⟨2, ![512, 64]⟩
abbrev S256 : Shape := ⟨1, ![256]⟩
abbrev S256x1 : Shape := ⟨2, ![256, 1]⟩
abbrev S1x256x768 : Shape := ⟨3, ![1, 256, 768]⟩
abbrev S1 : Shape := ⟨1, ![1]⟩

abbrev nBuf : Space → Nat
  | .hbm => 126
  | .vmem => 11
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x32x64, .bf16⟩
  | .hbm, ⟨3, _⟩ => ⟨S2x512x32x64, .bf16⟩
  | .hbm, ⟨4, _⟩ => ⟨S512x768, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x8x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x512x8x64, .bf16⟩
  | .hbm, ⟨33, _⟩ => ⟨S2x8x512x64, .bf16⟩
  | .hbm, ⟨34, _⟩ => ⟨S16x512x64, .bf16⟩
  | .hbm, ⟨35, _⟩ => ⟨S2x8x512x64, .bf16⟩
  | .hbm, ⟨36, _⟩ => ⟨S16x512x64, .bf16⟩
  | .hbm, ⟨37, _⟩ => ⟨S512, .i32⟩
  | .hbm, ⟨38, _⟩ => ⟨S_, .i32⟩
  | .hbm, ⟨39, _⟩ => ⟨S_, .i32⟩
  | .hbm, ⟨40, _⟩ => ⟨S512, .i32⟩
  | .hbm, ⟨41, _⟩ => ⟨S512, .i32⟩
  | .hbm, ⟨42, _⟩ => ⟨S512, .i32⟩
  | .hbm, ⟨43, _⟩ => ⟨S_, .i32⟩
  | .hbm, ⟨44, _⟩ => ⟨S512, .i32⟩
  | .hbm, ⟨45, _⟩ => ⟨S512, .i1⟩
  | .hbm, ⟨46, _⟩ => ⟨S512, .i32⟩
  | .hbm, ⟨47, _⟩ => ⟨S512, .i32⟩
  | .hbm, ⟨48, _⟩ => ⟨S_, .i32⟩
  | .hbm, ⟨49, _⟩ => ⟨S512, .i32⟩
  | .hbm, ⟨50, _⟩ => ⟨S512, .i1⟩
  | .hbm, ⟨51, _⟩ => ⟨S512, .i1⟩
  | .hbm, ⟨52, _⟩ => ⟨S_, .i32⟩
  | .hbm, ⟨53, _⟩ => ⟨S512, .i32⟩
  | .hbm, ⟨54, _⟩ => ⟨S512, .i32⟩
  | .hbm, ⟨55, _⟩ => ⟨S512, .i32⟩
  | .hbm, ⟨56, _⟩ => ⟨S512x1, .i32⟩
  | .hbm, ⟨57, _⟩ => ⟨S512, .i32⟩
  | .hbm, ⟨58, _⟩ => ⟨S_, .i32⟩
  | .hbm, ⟨59, _⟩ => ⟨S_, .i32⟩
  | .hbm, ⟨60, _⟩ => ⟨S512, .i32⟩
  | .hbm, ⟨61, _⟩ => ⟨S512, .i32⟩
  | .hbm, ⟨62, _⟩ => ⟨S512, .i32⟩
  | .hbm, ⟨63, _⟩ => ⟨S_, .i32⟩
  | .hbm, ⟨64, _⟩ => ⟨S512, .i32⟩
  | .hbm, ⟨65, _⟩ => ⟨S512, .i1⟩
  | .hbm, ⟨66, _⟩ => ⟨S512, .i32⟩
  | .hbm, ⟨67, _⟩ => ⟨S512, .i32⟩
  | .hbm, ⟨68, _⟩ => ⟨S_, .i32⟩
  | .hbm, ⟨69, _⟩ => ⟨S512, .i32⟩
  | .hbm, ⟨70, _⟩ => ⟨S512, .i1⟩
  | .hbm, ⟨71, _⟩ => ⟨S512, .i1⟩
  | .hbm, ⟨72, _⟩ => ⟨S_, .i32⟩
  | .hbm, ⟨73, _⟩ => ⟨S512, .i32⟩
  | .hbm, ⟨74, _⟩ => ⟨S512, .i32⟩
  | .hbm, ⟨75, _⟩ => ⟨S512, .i32⟩
  | .hbm, ⟨76, _⟩ => ⟨S1x512, .i32⟩
  | .hbm, ⟨77, _⟩ => ⟨S512x512, .i32⟩
  | .hbm, ⟨78, _⟩ => ⟨S512x512, .i32⟩
  | .hbm, ⟨79, _⟩ => ⟨S512x512, .i1⟩
  | .hbm, ⟨80, _⟩ => ⟨S_, .i32⟩
  | .hbm, ⟨81, _⟩ => ⟨S1x512, .i32⟩
  | .hbm, ⟨82, _⟩ => ⟨S1x512, .i1⟩
  | .hbm, ⟨83, _⟩ => ⟨S512x512, .i1⟩
  | .hbm, ⟨84, _⟩ => ⟨S512x512, .i1⟩
  | .hbm, ⟨85, _⟩ => ⟨S512x512, .i32⟩
  | .hbm, ⟨86, _⟩ => ⟨S512x512, .i32⟩
  | .hbm, ⟨87, _⟩ => ⟨S512x512, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i1⟩
  | .hbm, ⟨92, _⟩ => ⟨S_, .i32⟩
  | .hbm, ⟨93, _⟩ => ⟨S_, .i32⟩
  | .hbm, ⟨94, _⟩ => ⟨S512x512, .i32⟩
  | .hbm, ⟨95, _⟩ => ⟨S512x512, .i32⟩
  | .hbm, ⟨96, _⟩ => ⟨S_, .i32⟩
  | .hbm, ⟨97, _⟩ => ⟨S512x512, .i32⟩
  | .hbm, ⟨98, _⟩ => ⟨S512x512, .i1⟩
  | .hbm, ⟨99, _⟩ => ⟨S_, .i32⟩
  | .hbm, ⟨100, _⟩ => ⟨S512x512, .i32⟩
  | .hbm, ⟨101, _⟩ => ⟨S512x512, .i1⟩
  | .hbm, ⟨102, _⟩ => ⟨S_, .i32⟩
  | .hbm, ⟨103, _⟩ => ⟨S_, .i1⟩
  | .hbm, ⟨104, _⟩ => ⟨S512x512, .i1⟩
  | .hbm, ⟨105, _⟩ => ⟨S512x512, .i1⟩
  | .hbm, ⟨106, _⟩ => ⟨S512x512, .i1⟩
  | .hbm, ⟨107, _⟩ => ⟨S512x512, .i32⟩
  | .hbm, ⟨108, _⟩ => ⟨S512x512, .i32⟩
  | .hbm, ⟨109, _⟩ => ⟨S512x512, .i32⟩
  | .hbm, ⟨110, _⟩ => ⟨S_, .i32⟩
  | .hbm, ⟨111, _⟩ => ⟨S512x512, .i32⟩
  | .hbm, ⟨112, _⟩ => ⟨S512x512, .i1⟩
  | .hbm, ⟨113, _⟩ => ⟨S512x512, .i1⟩
  | .hbm, ⟨114, _⟩ => ⟨S_, .f32⟩
  | .hbm, ⟨115, _⟩ => ⟨S_, .f32⟩
  | .hbm, ⟨116, _⟩ => ⟨S512x512, .f32⟩
  | .hbm, ⟨117, _⟩ => ⟨S512x512, .f32⟩
  | .hbm, ⟨118, _⟩ => ⟨S512x512, .f32⟩
  | .hbm, ⟨119, _⟩ => ⟨S512x512, .f32⟩
  | .hbm, ⟨120, _⟩ => ⟨S1024x768, .bf16⟩
  | .hbm, ⟨121, _⟩ => ⟨S_, .bf16⟩
  | .hbm, ⟨122, _⟩ => ⟨S768x512, .bf16⟩
  | .hbm, ⟨123, _⟩ => ⟨S768x512, .bf16⟩
  | .hbm, ⟨124, _⟩ => ⟨S1024x768, .f32⟩
  | .hbm, ⟨125, _⟩ => ⟨S2x512x768, .f32⟩
  | .local _ .vmem, ⟨0, _⟩ => ⟨S1024x768, .bf16⟩
  | .local _ .vmem, ⟨1, _⟩ => ⟨S768x512, .bf16⟩
  | .local _ .vmem, ⟨2, _⟩ => ⟨S16x512x64, .bf16⟩
  | .local _ .vmem, ⟨3, _⟩ => ⟨S16x512x64, .bf16⟩
  | .local _ .vmem, ⟨4, _⟩ => ⟨S512x768, .bf16⟩
  | .local _ .vmem, ⟨5, _⟩ => ⟨S512x512, .f32⟩
  | .local _ .vmem, ⟨6, _⟩ => ⟨S1024x768, .f32⟩
  | .local _ .vmem, ⟨7, _⟩ => ⟨S3x256x768, .bf16⟩
  | .local _ .vmem, ⟨8, _⟩ => ⟨S3x256x768, .bf16⟩
  | .local _ .vmem, ⟨9, _⟩ => ⟨S3x256x768, .bf16⟩
  | .local _ .vmem, ⟨10, _⟩ => ⟨S256x768, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_13 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_c_14 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_c : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_0 : Ref sig .tc := ⟨.hbm, 72, rfl⟩
abbrev main_call1_v12 : Ref sig .tc := ⟨.hbm, 73, rfl⟩
abbrev main_call1_v13 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_c_15 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_c_16 : Ref sig .tc := ⟨.hbm, 88, rfl⟩
abbrev main_call2_v0 : Ref sig .tc := ⟨.hbm, 89, rfl⟩
abbrev main_call2_c : Ref sig .tc := ⟨.hbm, 90, rfl⟩
abbrev main_call2_v1 : Ref sig .tc := ⟨.hbm, 91, rfl⟩
abbrev main_call2_c_0 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_c_1 : Ref sig .tc := ⟨.hbm, 96, rfl⟩
abbrev main_call2_v5 : Ref sig .tc := ⟨.hbm, 97, rfl⟩
abbrev main_call2_v6 : Ref sig .tc := ⟨.hbm, 98, rfl⟩
abbrev main_call2_c_2 : Ref sig .tc := ⟨.hbm, 99, rfl⟩
abbrev main_call2_v7 : Ref sig .tc := ⟨.hbm, 100, rfl⟩
abbrev main_call2_v8 : Ref sig .tc := ⟨.hbm, 101, rfl⟩
abbrev main_call2_c_3 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_v12 : Ref sig .tc := ⟨.hbm, 106, rfl⟩
abbrev main_call2_v13 : Ref sig .tc := ⟨.hbm, 107, rfl⟩
abbrev main_call2_v14 : Ref sig .tc := ⟨.hbm, 108, rfl⟩
abbrev main_v35 : Ref sig .tc := ⟨.hbm, 109, rfl⟩
abbrev main_c_17 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_cst : Ref sig .tc := ⟨.hbm, 114, rfl⟩
abbrev main_cst_18 : Ref sig .tc := ⟨.hbm, 115, rfl⟩
abbrev main_call3_v0 : Ref sig .tc := ⟨.hbm, 116, rfl⟩
abbrev main_call3_v1 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_cst_19 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c256_i32_23 : BitVec 32 := 256#32
  let v37 : BitVec 32 := Scalar.muli v17 c256_i32_23
  let v38 : Index := Scalar.indexCast v37
  let c0 : Index := 0#32
  ![v38.toNat, 0]
def k0_off2 (d0 : Dev nD) (c1_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c2_i32_22 : BitVec 32 := 2#32
  let v35 : BitVec 32 := Scalar.remsi v17 c2_i32_22
  let c256_i32 : BitVec 32 := 256#32
  let v36 : BitVec 32 := Scalar.muli v35 c256_i32
  let v45 : Index := Scalar.indexCast v36
  let c0_26 : Index := 0#32
  ![v45.toNat, 0]
def k0_off3 (d0 : Dev nD) (c1_i32_13 : BitVec 32) (c0_i32_28 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c0_i32_16 : BitVec 32 := 0#32
  let v19 : BitVec 1 := Scalar.cmpi .sgt v17 c0_i32_16
  let v20 : BitVec 32 := Scalar.extui v19
  let c0_i32_17 : BitVec 32 := 0#32
  let v21 : BitVec 1 := Scalar.cmpi .slt v17 c0_i32_17
  let v22 : BitVec 32 := Scalar.extui v21
  let v23 : BitVec 32 := Scalar.subi v20 v22
  let c2_i32_15 : BitVec 32 := 2#32
  let c0_i32_18 : BitVec 32 := 0#32
  let v24 : BitVec 1 := Scalar.cmpi .sgt c2_i32_15 c0_i32_18
  let v25 : BitVec 32 := Scalar.extui v24
  let c0_i32_19 : BitVec 32 := 0#32
  let v26 : BitVec 1 := Scalar.cmpi .slt c2_i32_15 c0_i32_19
  let v27 : BitVec 32 := Scalar.extui v26
  let v28 : BitVec 32 := Scalar.subi v25 v27
  let v29 : BitVec 1 := Scalar.cmpi .ne v23 v28
  let v30 : BitVec 32 := Scalar.remsi v17 c2_i32_15
  let c0_i32_20 : BitVec 32 := 0#32
  let v31 : BitVec 1 := Scalar.cmpi .ne v30 c0_i32_20
  let v32 : BitVec 1 := Scalar.andi v29 v31
  let v18 : BitVec 32 := Scalar.divsi v17 c2_i32_15
  let c1_i32_21 : BitVec 32 := 1#32
  let v33 : BitVec 32 := Scalar.subi v18 c1_i32_21
  let v34 : BitVec 32 := Scalar.select v32 v33 v18
  let c8_i32 : BitVec 32 := 8#32
  let v50 : BitVec 32 := Scalar.muli v34 c8_i32
  let v51 : BitVec 32 := Scalar.addi v50 c0_i32_28
  let v53 : Index := Scalar.indexCast v51
  let c0_29 : Index := 0#32
  let c0_30 : Index := 0#32
  ![v53.toNat, 0, 0]
def k0_dev4 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_106 : BitVec 32 := 1#32
  let v210 : BitVec 32 := Scalar.muli v17 c1_i32_106
  let v211 : BitVec 32 := Scalar.addi c0_i32_107 v210
  v211.toNat
def k0_dev5 (d0 : Dev nD) : Nat :=
  let c0_i32_212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_112 : BitVec 32 := 2#32
  let v220 : BitVec 32 := Scalar.addi v2 c2_i32_112
  let c4_i32_113 : BitVec 32 := 4#32
  let v221 : BitVec 32 := Scalar.remsi v220 c4_i32_113
  let c1_i32_211 : BitVec 32 := 1#32
  let v414 : BitVec 32 := Scalar.muli v221 c1_i32_211
  let v415 : BitVec 32 := Scalar.addi c0_i32_212 v414
  v415.toNat
def k0_dev6 (d0 : Dev nD) : Nat :=
  let c0_i32_317 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_217 : BitVec 32 := 3#32
  let v424 : BitVec 32 := Scalar.addi v2 c3_i32_217
  let c4_i32_218 : BitVec 32 := 4#32
  let v425 : BitVec 32 := Scalar.remsi v424 c4_i32_218
  let c1_i32_316 : BitVec 32 := 1#32
  let v618 : BitVec 32 := Scalar.muli v425 c1_i32_316
  let v619 : BitVec 32 := Scalar.addi c0_i32_317 v618
  v619.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_331 : BitVec 32 := 256#32
  let v647 : BitVec 32 := Scalar.muli v2 c256_i32_331
  let v648 : Index := Scalar.indexCast v647
  let c0_332 : Index := 0#32
  ![v648.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_329 : BitVec 32 := 2#32
  let v645 : BitVec 32 := Scalar.remsi v2 c2_i32_329
  let c256_i32_330 : BitVec 32 := 256#32
  let v646 : BitVec 32 := Scalar.muli v645 c256_i32_330
  let v655 : Index := Scalar.indexCast v646
  let c0_336 : Index := 0#32
  ![v655.toNat, 0]
def k0_off6 (d0 : Dev nD) (c0_i32_339 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_323 : BitVec 32 := 0#32
  let v629 : BitVec 1 := Scalar.cmpi .sgt v2 c0_i32_323
  let v630 : BitVec 32 := Scalar.extui v629
  let c0_i32_324 : BitVec 32 := 0#32
  let v631 : BitVec 1 := Scalar.cmpi .slt v2 c0_i32_324
  let v632 : BitVec 32 := Scalar.extui v631
  let v633 : BitVec 32 := Scalar.subi v630 v632
  let c2_i32_322 : BitVec 32 := 2#32
  let c0_i32_325 : BitVec 32 := 0#32
  let v634 : BitVec 1 := Scalar.cmpi .sgt c2_i32_322 c0_i32_325
  let v635 : BitVec 32 := Scalar.extui v634
  let c0_i32_326 : BitVec 32 := 0#32
  let v636 : BitVec 1 := Scalar.cmpi .slt c2_i32_322 c0_i32_326
  let v637 : BitVec 32 := Scalar.extui v636
  let v638 : BitVec 32 := Scalar.subi v635 v637
  let v639 : BitVec 1 := Scalar.cmpi .ne v633 v638
  let v640 : BitVec 32 := Scalar.remsi v2 c2_i32_322
  let c0_i32_327 : BitVec 32 := 0#32
  let v641 : BitVec 1 := Scalar.cmpi .ne v640 c0_i32_327
  let v642 : BitVec 1 := Scalar.andi v639 v641
  let v628 : BitVec 32 := Scalar.divsi v2 c2_i32_322
  let c1_i32_328 : BitVec 32 := 1#32
  let v643 : BitVec 32 := Scalar.subi v628 c1_i32_328
  let v644 : BitVec 32 := Scalar.select v642 v643 v628
  let c8_i32_338 : BitVec 32 := 8#32
  let v660 : BitVec 32 := Scalar.muli v644 c8_i32_338
  let v661 : BitVec 32 := Scalar.addi v660 c0_i32_339
  let v663 : Index := Scalar.indexCast v661
  let c0_340 : Index := 0#32
  let c0_341 : Index := 0#32
  ![v663.toNat, 0, 0]
def k0_dev7 (d0 : Dev nD) : Nat :=
  let c0_i32_489 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_483 : BitVec 32 := 1#32
  let v877 : BitVec 32 := Scalar.addi v2 c1_i32_483
  let c4_i32_484 : BitVec 32 := 4#32
  let v878 : BitVec 32 := Scalar.remsi v877 c4_i32_484
  let c1_i32_488 : BitVec 32 := 1#32
  let v879 : BitVec 32 := Scalar.muli v878 c1_i32_488
  let v880 : BitVec 32 := Scalar.addi c0_i32_489 v879
  v880.toNat
def k0_dev8 (d0 : Dev nD) : Nat :=
  let c0_i32_498 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_492 : BitVec 32 := 2#32
  let v887 : BitVec 32 := Scalar.addi v2 c2_i32_492
  let c4_i32_493 : BitVec 32 := 4#32
  let v888 : BitVec 32 := Scalar.remsi v887 c4_i32_493
  let c1_i32_497 : BitVec 32 := 1#32
  let v889 : BitVec 32 := Scalar.muli v888 c1_i32_497
  let v890 : BitVec 32 := Scalar.addi c0_i32_498 v889
  v890.toNat
def k0_dev9 (d0 : Dev nD) : Nat :=
  let c0_i32_507 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_501 : BitVec 32 := 3#32
  let v897 : BitVec 32 := Scalar.addi v2 c3_i32_501
  let c4_i32_502 : BitVec 32 := 4#32
  let v898 : BitVec 32 := Scalar.remsi v897 c4_i32_502
  let c1_i32_506 : BitVec 32 := 1#32
  let v899 : BitVec 32 := Scalar.muli v898 c1_i32_506
  let v900 : BitVec 32 := Scalar.addi c0_i32_507 v899
  v900.toNat
def k0_off7 (d0 : Dev nD) (c0_i32_520 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v915 : BitVec 32 := Scalar.addi v2 c0_i32_520
  let c1_i32_521 : BitVec 32 := 1#32
  let v916 : BitVec 32 := Scalar.addi v915 c1_i32_521
  let c4_i32_522 : BitVec 32 := 4#32
  let v917 : BitVec 32 := Scalar.remsi v916 c4_i32_522
  let c256_i32_526 : BitVec 32 := 256#32
  let v921 : BitVec 32 := Scalar.muli v917 c256_i32_526
  let v922 : Index := Scalar.indexCast v921
  let c0_527 : Index := 0#32
  ![v922.toNat, 0]
abbrev stage0_0 : Fin 1 → Memref sig .tc .vmem S1024x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x768 : Shape := ⟨3, ![2, 512, 768]⟩
abbrev S768x2048 : Shape := ⟨2, ![768, 2048]⟩
abbrev S2x512x32x64 : Shape := ⟨4, ![2, 512, 32, 64]⟩
abbrev S2048x768 : Shape := ⟨2, ![2048, 768]⟩
abbrev S2x512x2048 : Shape := ⟨3, ![2, 512, 2048]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x32x512x512 : Shape := ⟨4, ![2, 32, 512, 512]⟩
abbrev S1x1x512x512 : Shape := ⟨4, ![1, 1, 512, 512]⟩
abbrev S2x32x512 : Shape := ⟨3, ![2, 32, 512]⟩
abbrev S2x32x512x1 : Shape := ⟨4, ![2, 32, 512, 1]⟩
abbrev S1x1x512x1 : Shape := ⟨4, ![1, 1, 512, 1]⟩
abbrev S2x32x64x512 : Shape := ⟨4, ![2, 32, 64, 512]⟩

abbrev nBuf : Space → Nat
  | .hbm => 128
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S768x2048, .bf16⟩
  | .hbm, ⟨2, _⟩ => ⟨S2x512x32x64, .bf16⟩
  | .hbm, ⟨3, _⟩ => ⟨S2x512x32x64, .bf16⟩
  | .hbm, ⟨4, _⟩ => ⟨S2048x768, .bf16⟩
  | .hbm, ⟨5, _⟩ => ⟨S2x512x2048, .f32⟩
  | .hbm, ⟨6, _⟩ => ⟨S2x512x2048, .bf16⟩
  | .hbm, ⟨7, _⟩ => ⟨S2x512x32x64, .bf16⟩
  | .hbm, ⟨8, _⟩ => ⟨S512, .i32⟩
  | .hbm, ⟨9, _⟩ => ⟨S_, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S512, .i32⟩
  | .hbm, ⟨29, _⟩ => ⟨S_, .i32⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512, .i32⟩
  | .hbm, ⟨38, _⟩ => ⟨S512, .i32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S512, .i1⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512, .i32⟩
  | .hbm, ⟨47, _⟩ => ⟨S1x512, .i32⟩
  | .hbm, ⟨48, _⟩ => ⟨S512x512, .i32⟩
  | .hbm, ⟨49, _⟩ => ⟨S512x512, .i32⟩
  | .hbm, ⟨50, _⟩ => ⟨S512x512, .i1⟩
  | .hbm, ⟨51, _⟩ => ⟨S_, .i32⟩
  | .hbm, ⟨52, _⟩ => ⟨S1x512, .i32⟩
  | .hbm, ⟨53, _⟩ => ⟨S1x512, .i1⟩
  | .hbm, ⟨54, _⟩ => ⟨S512x512, .i1⟩
  | .hbm, ⟨55, _⟩ => ⟨S512x512, .i1⟩
  | .hbm, ⟨56, _⟩ => ⟨S512x512, .i32⟩
  | .hbm, ⟨57, _⟩ => ⟨S512x512, .i32⟩
  | .hbm, ⟨58, _⟩ => ⟨S512x512, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S512x512, .i32⟩
  | .hbm, ⟨66, _⟩ => ⟨S512x512, .i32⟩
  | .hbm, ⟨67, _⟩ => ⟨S_, .i32⟩
  | .hbm, ⟨68, _⟩ => ⟨S512x512, .i32⟩
  | .hbm, ⟨69, _⟩ => ⟨S512x512, .i1⟩
  | .hbm, ⟨70, _⟩ => ⟨S_, .i32⟩
  | .hbm, ⟨71, _⟩ => ⟨S512x512, .i32⟩
  | .hbm, ⟨72, _⟩ => ⟨S512x512, .i1⟩
  | .hbm, ⟨73, _⟩ => ⟨S_, .i32⟩
  | .hbm, ⟨74, _⟩ => ⟨S_, .i1⟩
  | .hbm, ⟨75, _⟩ => ⟨S512x512, .i1⟩
  | .hbm, ⟨76, _⟩ => ⟨S512x512, .i1⟩
  | .hbm, ⟨77, _⟩ => ⟨S512x512, .i1⟩
  | .hbm, ⟨78, _⟩ => ⟨S512x512, .i32⟩
  | .hbm, ⟨79, _⟩ => ⟨S512x512, .i32⟩
  | .hbm, ⟨80, _⟩ => ⟨S512x512, .i32⟩
  | .hbm, ⟨81, _⟩ => ⟨S_, .i32⟩
  | .hbm, ⟨82, _⟩ => ⟨S512x512, .i32⟩
  | .hbm, ⟨83, _⟩ => ⟨S512x512, .i1⟩
  | .hbm, ⟨84, _⟩ => ⟨S512x512, .i1⟩
  | .hbm, ⟨85, _⟩ => ⟨S2x32x512x512, .f32⟩
  | .hbm, ⟨86, _⟩ => ⟨S2x32x512x512, .bf16⟩
  | .hbm, ⟨87, _⟩ => ⟨S2x32x512x512, .f32⟩
  | .hbm, ⟨88, _⟩ => ⟨S_, .f32⟩
  | .hbm, ⟨89, _⟩ => ⟨S2x32x512x512, .f32⟩
  | .hbm, ⟨90, _⟩ => ⟨S2x32x512x512, .f32⟩
  | .hbm, ⟨91, _⟩ => ⟨S1x1x512x512, .i1⟩
  | .hbm, ⟨92, _⟩ => ⟨S_, .f32⟩
  | .hbm, ⟨93, _⟩ => ⟨S_, .f32⟩
  | .hbm, ⟨94, _⟩ => ⟨S2x32x512x512, .i1⟩
  | .hbm, ⟨95, _⟩ => ⟨S2x32x512x512, .f32⟩
  | .hbm, ⟨96, _⟩ => ⟨S2x32x512x512, .f32⟩
  | .hbm, ⟨97, _⟩ => ⟨S_, .f32⟩
  | .hbm, ⟨98, _⟩ => ⟨S2x32x512, .f32⟩
  | .hbm, ⟨99, _⟩ => ⟨S2x32x512x1, .f32⟩
  | .hbm, ⟨100, _⟩ => ⟨S2x32x512x512, .f32⟩
  | .hbm, ⟨101, _⟩ => ⟨S2x32x512x512, .f32⟩
  | .hbm, ⟨102, _⟩ => ⟨S2x32x512x512, .f32⟩
  | .hbm, ⟨103, _⟩ => ⟨S_, .i1⟩
  | .hbm, ⟨104, _⟩ => ⟨S512, .i1⟩
  | .hbm, ⟨105, _⟩ => ⟨S1x1x512x1, .i1⟩
  | .hbm, ⟨106, _⟩ => ⟨S_, .f32⟩
  | .hbm, ⟨107, _⟩ => ⟨S2x32x512, .f32⟩
  | .hbm, ⟨108, _⟩ => ⟨S2x32x512x1, .f32⟩
  | .hbm, ⟨109, _⟩ => ⟨S_, .f32⟩
  | .hbm, ⟨110, _⟩ => ⟨S_, .f32⟩
  | .hbm, ⟨111, _⟩ => ⟨S2x32x512x1, .i1⟩
  | .hbm, ⟨112, _⟩ => ⟨S2x32x512x1, .f32⟩
  | .hbm, ⟨113, _⟩ => ⟨S2x32x512x1, .f32⟩
  | .hbm, ⟨114, _⟩ => ⟨S2x32x512x512, .f32⟩
  | .hbm, ⟨115, _⟩ => ⟨S2x32x512x512, .f32⟩
  | .hbm, ⟨116, _⟩ => ⟨S1x1x512x1, .i1⟩
  | .hbm, ⟨117, _⟩ => ⟨S_, .f32⟩
  | .hbm, ⟨118, _⟩ => ⟨S_, .f32⟩
  | .hbm, ⟨119, _⟩ => ⟨S2x32x512x512, .i1⟩
  | .hbm, ⟨120, _⟩ => ⟨S2x32x512x512, .f32⟩
  | .hbm, ⟨121, _⟩ => ⟨S2x32x512x512, .f32⟩
  | .hbm, ⟨122, _⟩ => ⟨S2x512x32x64, .f32⟩
  | .hbm, ⟨123, _⟩ => ⟨S2x32x64x512, .f32⟩
  | .hbm, ⟨124, _⟩ => ⟨S2x512x32x64, .f32⟩
  | .hbm, ⟨125, _⟩ => ⟨S2x512x2048, .f32⟩
  | .hbm, ⟨126, _⟩ => ⟨S2048x768, .f32⟩
  | .hbm, ⟨127, _⟩ => ⟨S2x512x768, .f32⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v19 : Ref sig .tc := ⟨.hbm, 80, rfl⟩
abbrev main_c_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v29 : Ref sig .tc := ⟨.hbm, 96, rfl⟩
abbrev main_cst_5 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_c_6 : Ref sig .tc := ⟨.hbm, 103, rfl⟩
abbrev main_v35 : Ref sig .tc := ⟨.hbm, 104, rfl⟩
abbrev main_v36 : Ref sig .tc := ⟨.hbm, 105, rfl⟩
abbrev main_cst_7 : Ref sig .tc := ⟨.hbm, 106, rfl⟩
abbrev main_v37 : Ref sig .tc := ⟨.hbm, 107, rfl⟩
abbrev main_v38 : Ref sig .tc := ⟨.hbm, 108, rfl⟩
abbrev main_cst_8 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_cst_9 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Chunk.lean ====
/-
  What one device computes for one block of 256 rows, as plain functions of what it reads:
  `ctx` is one head of attention on the block, `chunkOf` the eight heads beside one another times the device's
  rows of the output projection. `part` is that value read from a device's staged inputs, and `reduced` the sum over
  the four devices in the order the kernel adds them.
-/
module

public import proofs.«01_k».proof.Proof.Gen.KernelIdeal
public import proofs.«01_k».proof.Proof.Gen.KernelIdeal.Skeleton

@[expose] public section

noncomputable section

namespace Cert.Fused

open Cert.KernelIdeal Cert.KernelIdeal.Gen
open Idealize.ShloMosaic Idealize.ShloMosaic.TcCoe

variable {F : FTy → Type} [FloatOps F] [Named F]

/-! ## One head, one chunk -/

/-- Columns `64·h` to `64·h + 63` of a 512-column row lie inside it. -/
theorem headSlices (h : Fin 8) : S256x512.Slices ![0, 64 * h.val] S256x64 := by revert h; decide

/-- The weights of one head on a block: the exponential of the block's scores against the head's keys, the mask's rows added. -/
def wts (q : FVec F S256x512 .bf16) (b : FVec F S256x512 .f32) (k : Vec F S1x512x64 .bf16) (h : Fin 8) : FVec F S256x512 .f32 :=
  exp (addf (matmul dot_S256x64_S512x64_S256x512_1_1_0_0_n_n none
    (extractStridedSlice S256x64 ![0, 64 * h.val] q (headSlices h)) (shapeCast S512x64 k shapeCasts_S1x512x64_S512x64)
    (constant S256x512 .f32 0x00000000#32)) b)

/-- One head's context on a block: the weights times the head's values, divided by the weights' row sums. -/
def ctx (q : FVec F S256x512 .bf16) (b : FVec F S256x512 .f32) (k v : Vec F S1x512x64 .bf16) (h : Fin 8) : FVec F S256x64 .bf16 :=
  truncf .bf16 (divf
    (matmul dot_S256x512_S512x64_S256x64_1_0_0_1_n_n none (truncf .bf16 (wts q b k h) bitsLt_bf16_f32)
      (shapeCast S512x64 v shapeCasts_S1x512x64_S512x64) (constant S256x64 .f32 0x00000000#32))
    (broadcastTo S256x64 (shapeCast S256x1
      (multiReduction .add [1] S256 (wts q b k h) 0x00000000#32 reduces_S256x512_S256 (.inl rfl) rfl)
      shapeCasts_S256_S256x1) broadcasts_S256x1_S256x64)) bitsLt_bf16_f32

/-- The eight heads' contexts beside one another. -/
def heads (q : FVec F S256x512 .bf16) (b : FVec F S256x512 .f32) (k v : Fin 8 → Vec F S1x512x64 .bf16) : FVec F S256x512 .bf16 :=
  concatenate S256x512 1 [⟨S256x64, ctx q b (k 0) (v 0) 0⟩, ⟨S256x64, ctx q b (k 1) (v 1) 1⟩, ⟨S256x64, ctx q b (k 2) (v 2) 2⟩,
    ⟨S256x64, ctx q b (k 3) (v 3) 3⟩, ⟨S256x64, ctx q b (k 4) (v 4) 4⟩, ⟨S256x64, ctx q b (k 5) (v 5) 5⟩,
    ⟨S256x64, ctx q b (k 6) (v 6) 6⟩, ⟨S256x64, ctx q b (k 7) (v 7) 7⟩]
    concatenates_S256x64_S256x64_S256x64_S256x64_S256x64_S256x64_S256x64_S256x64_S256x512_d1

/-- One device's part of a block of the result: its heads' contexts times its rows of the output projection. -/
def chunkOf (x : Vec F S256x768 .bf16) (wq : Vec F S768x512 .bf16) (b : Vec F S256x512 .f32) (k v : Fin 8 → Vec F S1x512x64 .bf16)
    (wo : Vec F S512x768 .bf16) : FVec F S256x768 .f32 :=
  matmul dot_S256x512_S512x768_S256x768_1_0_0_1_n_n none (heads (k0_pay1 x wq) (k0_pay2 b) k v)
    (shapeCast S512x768 wo shapeCasts_S512x768_S512x768) (constant S256x768 .f32 0x00000000#32)

/-- A part as it is stored for its transfer: rounded, with a leading unit axis. -/
def packed (p : FVec F S256x768 .f32) : Vec F S1x256x768 .bf16 :=
  shapeCast S1x256x768 (truncf .bf16 p bitsLt_bf16_f32) shapeCasts_S256x768_S1x256x768

/-! ## The devices -/

set_option backward.proofsInPublic true in
/-- The device `k + 1` places up the ring. -/
def up (k : Fin 3) (c : Dev nD) : Dev nD := ⟨(c.val + k.val + 1) % 4, Nat.mod_lt _ (by decide)⟩
/-- The same distance counted the other way. -/
def rev (k : Fin 3) : Fin 3 := ⟨2 - k.val, by omega⟩
theorem up_up (k : Fin 3) (c : Dev nD) : up (rev k) (up k c) = c := by revert k c; decide
theorem up_rev (k : Fin 3) (c : Dev nD) : up k (up (rev k) c) = c := by revert k c; decide
theorem rev_rev (k : Fin 3) : rev (rev k) = k := by revert k; decide

/-! ## Reading a device's staged inputs -/

/-- A device's six staged inputs. -/
structure Ins (F : FTy → Type) where
  x : Vec F S1024x768 .bf16
  wq : Vec F S768x512 .bf16
  k : Vec F S16x512x64 .bf16
  v : Vec F S16x512x64 .bf16
  wo : Vec F S512x768 .bf16
  b : Vec F S512x512 .f32

theorem rowsX_inb (d : Dev nD) : ∀ a, (![256 * d.val, 0] : Fin 2 → Nat) a + S256x768.size a ≤ S1024x768.size a := by revert d; decide
theorem rowsB_inb (d : Dev nD) : ∀ a, (![256 * (d.val % 2), 0] : Fin 2 → Nat) a + S256x512.size a ≤ S512x512.size a := by revert d; decide
theorem rowsK_inb (d : Dev nD) (h : Fin 8) : ∀ a, (![8 * (d.val / 2) + h.val, 0, 0] : Fin 3 → Nat) a + S1x512x64.size a ≤ S16x512x64.size a := by
  revert d h; decide

/-- Rows `256·d` to `256·d + 255` of the activations. -/
def rowsX (f : Vec F S1024x768 .bf16) (d : Dev nD) : Vec F S256x768 .bf16 :=
  (Memref.whole cc0_stg0_0).view.readAt (Elt F) (Rect.unit (s := S1024x768) ![256 * d.val, 0] S256x768.size (rowsX_inb d)).toLoadRect f
/-- The mask rows of block `d`: its positions within its sequence. -/
def rowsB (f : Vec F S512x512 .f32) (d : Dev nD) : Vec F S256x512 .f32 :=
  (Memref.whole cc0_stg5_0).view.readAt (Elt F) (Rect.unit (s := S512x512) ![256 * (d.val % 2), 0] S256x512.size (rowsB_inb d)).toLoadRect f
/-- Head `h`'s keys for block `d`: its sequence's. -/
def headK (f : Vec F S16x512x64 .bf16) (d : Dev nD) (h : Fin 8) : Vec F S1x512x64 .bf16 :=
  (Memref.whole cc0_stg2_0).view.readAt (Elt F) (Rect.unit (s := S16x512x64) ![8 * (d.val / 2) + h.val, 0, 0] S1x512x64.size (rowsK_inb d h)).toLoadRect f
/-- Head `h`'s values for block `d`. -/
def headV (f : Vec F S16x512x64 .bf16) (d : Dev nD) (h : Fin 8) : Vec F S1x512x64 .bf16 :=
  (Memref.whole cc0_stg3_0).view.readAt (Elt F) (Rect.unit (s := S16x512x64) ![8 * (d.val / 2) + h.val, 0, 0] S1x512x64.size (rowsK_inb d h)).toLoadRect f

/-- A device's part of block `d` of the result. -/
def part (i : Ins F) (d : Dev nD) : FVec F S256x768 .f32 :=
  chunkOf (rowsX i.x d) i.wq (rowsB i.b d) (headK i.k d) (headV i.v d) i.wo

/-- What device `p` sends for block `d`. -/
def sent (I : Dev nD → Ins F) (p d : Dev nD) : Vec F S1x256x768 .bf16 := packed (part (I p) d)

/-- Block `c` of the result: device `c`'s own part and the three others', in the order they are added. -/
def total (I : Dev nD → Ins F) (c : Dev nD) : FVec F S256x768 .f32 :=
  k0_pay56 (k0_pay55 (part (I c) c) (sent I (up 0 c) c) (sent I (up 1 c) c)) (sent I (up 2 c) c)

/-- Block `c` as it is sent to the other devices: rounded. -/
def reduced (I : Dev nD → Ins F) (c : Dev nD) : FVec F S256x768 .bf16 :=
  k0_pay57 (k0_pay55 (part (I c) c) (sent I (up 0 c) c) (sent I (up 1 c) c)) (sent I (up 2 c) c)

end Cert.Fused

end
-- ==== Proof.Proto.lean ====
/-
  The communication of the four devices, as a schedule of the rounds library.

  Cells of a device: its barrier (unscoped), and twelve DMA semaphores of the kernel's own, three of each kind:
  `rsS k` / `rsR s` for the exchange of parts, `agS k` / `agR s` for the exchange of finished blocks. Index `k` counts the
  transfers a device starts (to `up k c`), index `s` the slots that others write (slot `s` of `c` is written by `up s c`);
  the transfer `k` of a device lands in slot `rev k` of `up k c`. Every cell has one round.

  A device's barrier has three duties, one a peer: with its unit the peer hands over its two landing slots that the
  device writes.
-/
module

public import proofs.«01_k».proof.Proof.Chunk
public import proofs.«01_k».proof.Proof.Gen.KernelIdeal.Launch
public import Idealize.ShloMosaic.Lib.Pipeline.Launch
public import Idealize.ShloMosaic.Lib.Tactic

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The rounds' ghost state, its duties named by three values; with the pipeline's. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The transfers' devices -/

theorem dev1_eq (c : Dev nD) : (⟨k0_dev1 c, k0_dev1_lt c⟩ : Dev nD) = up 0 c := Fin.ext (k0_dev1_eq c)
theorem dev2_eq (c : Dev nD) : (⟨k0_dev2 c, k0_dev2_lt c⟩ : Dev nD) = up 1 c := Fin.ext (k0_dev2_eq c)
theorem dev3_eq (c : Dev nD) : (⟨k0_dev3 c, k0_dev3_lt c⟩ : Dev nD) = up 2 c := Fin.ext (k0_dev3_eq c)
theorem dev4_eq (c : Dev nD) : (⟨k0_dev4 c, k0_dev4_lt c⟩ : Dev nD) = up 0 c := Fin.ext (k0_dev4_eq c)
theorem dev5_eq (c : Dev nD) : (⟨k0_dev5 c, k0_dev5_lt c⟩ : Dev nD) = up 1 c := Fin.ext (k0_dev5_eq c)
theorem dev6_eq (c : Dev nD) : (⟨k0_dev6 c, k0_dev6_lt c⟩ : Dev nD) = up 2 c := Fin.ext (k0_dev6_eq c)
theorem dev7_eq (c : Dev nD) : (⟨k0_dev7 c, k0_dev7_lt c⟩ : Dev nD) = up 0 c := Fin.ext (k0_dev7_eq c)
theorem dev8_eq (c : Dev nD) : (⟨k0_dev8 c, k0_dev8_lt c⟩ : Dev nD) = up 1 c := Fin.ext (k0_dev8_eq c)
theorem dev9_eq (c : Dev nD) : (⟨k0_dev9 c, k0_dev9_lt c⟩ : Dev nD) = up 2 c := Fin.ext (k0_dev9_eq c)

/-! ## The memrefs, the semaphores, the cells -/

abbrev sbM : Memref sig .tc .vmem S3x256x768 .bf16 := Memref.whole cc0_scratch0
abbrev rsM : Memref sig .tc .vmem S3x256x768 .bf16 := Memref.whole cc0_scratch1
abbrev agM : Memref sig .tc .vmem S3x256x768 .bf16 := Memref.whole cc0_scratch2
abbrev rdM : Memref sig .tc .vmem S256x768 .bf16 := Memref.whole cc0_scratch3

theorem slot_inb (k : Fin 3) : ∀ a, (![k.val, 0, 0] : Fin 3 → Nat) a + S1x256x768.size a ≤ S3x256x768.size a := by revert k; decide
/-- Slot `k` of a three-slot buffer, as a rectangle of it, -/
abbrev slotR (k : Fin 3) : Rect S3x256x768 := Rect.unit (s := S3x256x768) ![k.val, 0, 0] S1x256x768.size (slot_inb k)
/-- and as the memref a transfer goes through. -/
abbrev slotM (M : Memref sig .tc .vmem S3x256x768 .bf16) (k : Fin 3) : Memref sig .tc .vmem S256x768 .bf16 :=
  (M.slice (slotR k) (fun _ => rfl)).squeeze S256x768 squeezes_S1x256x768_S256x768

abbrev barS : Sem sig := (SemArray.scalar (sig.barrier 0 rfl) : Sems sig S_).sem
set_option backward.proofsInPublic true in
/-- The kernel's own DMA semaphores, in the order of its arrays. -/
abbrev dq (i : Fin 12) : DmaSem sig := ⟨7 + i.val, by have := i.isLt; show 7 + i.val < 19; omega⟩
set_option backward.proofsInPublic true in
abbrev rsS (k : Fin 3) : DmaSem sig := dq ⟨k.val, by omega⟩
set_option backward.proofsInPublic true in
abbrev rsR (k : Fin 3) : DmaSem sig := dq ⟨3 + k.val, by omega⟩
set_option backward.proofsInPublic true in
abbrev agS (k : Fin 3) : DmaSem sig := dq ⟨6 + k.val, by omega⟩
set_option backward.proofsInPublic true in
abbrev agR (k : Fin 3) : DmaSem sig := dq ⟨9 + k.val, by omega⟩

abbrev barCell (c : Dev nD) : GSem nD τ sig := ((c : Thread nD τ), .reg barS)
abbrev dCell (q : DmaSem sig) (c : Dev nD) : GSem nD τ sig := ((c : Thread nD τ), .dma q)

/-- The kernel's own scoped semaphores, as the launch indexes them. -/
abbrev osem (i : Fin 12) : SemLoc sig := .dma (dq i)

/-- The credit of one transfer: that of a slot. -/
abbrev N : ℕ := (slotM rsM 0).view.dmaCredit
theorem N_pos : 0 < N := View.dmaCredit_pos _ (by decide)

/-! ## Slots held at a value -/

/-- Device `c`'s slot `k` of `M`, at the full share, at contents `f`. -/
abbrev slotAt (M : Memref sig .tc .vmem S3x256x768 .bf16) (k : Fin 3) (c : Dev nD)
    (f : Buf (Elt F) (M.view.loc (c : Thread nD τ))) : sProp 𝕄 :=
  (slotM M k).view.loc (c : Thread nD τ) ↦[(slotM M k).view.set]{fullShare} f
/-- The slot at some contents. -/
def slotAny (M : Memref sig .tc .vmem S3x256x768 .bf16) (k : Fin 3) (c : Dev nD) : sProp 𝕄 := iprop(∃ f, slotAt M k c f)
/-- The slot at contents that read as `X`. -/
def slotHas (M : Memref sig .tc .vmem S3x256x768 .bf16) (k : Fin 3) (c : Dev nD) (X : Vec F S1x256x768 .bf16) : sProp 𝕄 :=
  iprop(∃ f, ⌜M.view.readAt (Elt F) (slotR k).toLoadRect f = X⌝ ∗ slotAt M k c f)
/-- The finished block, at one share. -/
abbrev redAt (q : PosShare TreeShare) (c : Dev nD) (f : Buf (Elt F) (rdM.view.loc (c : Thread nD τ))) : sProp 𝕄 :=
  rdM.view.loc (c : Thread nD τ) ↦[rdM.view.set]{q} f

/-- The three shares at which the finished block is lent to the three transfers that read it at once. -/
def lent (k : Fin 3) : PosShare TreeShare :=
  if k.val = 0 then fullShare.left else if k.val = 1 then fullShare.right.left else fullShare.right.right

/-- A finished block as a slot holds it: with a leading unit axis. -/
def boxed (X : FVec F S256x768 .bf16) : Vec F S1x256x768 .bf16 := fun y => X (Shape.reshapeEquiv squeezes_S1x256x768_S256x768.numel_eq |>.symm y)

instance slotAny_storable (M k) (c : Dev nD) : BI.Storable (upEmb : UEmb _ 𝕄) (slotAny (F := F) M k c) := by unfold slotAny; infer_instance
instance slotHas_storable (M k) (c : Dev nD) (X) : BI.Storable (upEmb : UEmb _ 𝕄) (slotHas (F := F) M k c X) := by unfold slotHas; infer_instance

/-! ## The schedule -/

variable (I : Dev nD → Ins F)

/-- What the peer `up j c` hands over with its unit: the two slots that `c` writes, their cells open. -/
def barPay (c : Dev nD) (j : Fin 3) : sProp 𝕄 :=
  iprop(slotAny rsM (rev j) (up j c) ∗ slotAny agM (rev j) (up j c)
    ∗ reached ER (dCell (rsR (rev j)) (up j c)) 0 ∗ reached ER (dCell (agR (rev j)) (up j c)) 0)

/-- What each of the own DMA cells hands over: the send cells what was lent to the transfer, the receive cells a slot at
    what landed in it. -/
def xferPay (c : Dev nD) (n : ℕ) : sProp 𝕄 :=
  if n < 3 then slotAny sbM (Fin.ofNat 3 n) c
  else if n < 6 then slotHas rsM (Fin.ofNat 3 (n - 3)) c (sent I (up (Fin.ofNat 3 (n - 3)) c) c)
  else if n < 9 then redAt (lent (Fin.ofNat 3 (n - 6))) c (reduced I c)
  else slotHas agM (Fin.ofNat 3 (n - 9)) c (boxed (reduced I (up (Fin.ofNat 3 (n - 9)) c)))

def rd : Rounds.Schedule (GSem nD τ sig) (Fin 3) 𝕄 where
  duties g r := match g.2 with
    | .reg _ => if r = 0 ∧ g.1.2 = .tc then Finset.univ else ∅
    | .dma q => if r = 0 ∧ g.1.2 = .tc ∧ 7 ≤ q.val then {0} else ∅
  unitless _ := False
  amount g _ _ := match g.2 with | .reg _ => 1 | .dma _ => N
  payload g _ d := match g.2 with | .reg _ => barPay g.1.1 d | .dma q => xferPay I g.1.1 (q.val - 7)
  amount_pos g _ _ _ := by rcases g with ⟨t, s | q⟩; exacts [Nat.one_pos, N_pos]

instance rd_payload_storable (g : GSem nD τ sig) (r : ℕ) (d : Fin 3) :
    BI.Storable (upEmb : UEmb _ 𝕄) ((rd I).payload g r d) := by
  rcases g with ⟨t, s | q⟩
  · show BI.Storable upEmb (barPay t.1 d)
    unfold barPay; infer_instance
  · show BI.Storable upEmb (xferPay I t.1 (q.val - 7))
    unfold xferPay; (repeat' split) <;> infer_instance

section Sched
variable (c : Dev nD)

theorem duties_bar : (rd I).duties (barCell c) 0 = Finset.univ := by
  show (if (0 : ℕ) = 0 ∧ (c : Thread nD τ).2 = .tc then (Finset.univ : Finset (Fin 3)) else ∅) = _; exact if_pos ⟨rfl, rfl⟩
theorem duties_dma (i : Fin 12) : (rd I).duties (dCell (dq i) c) 0 = {0} := if_pos ⟨rfl, rfl, Nat.le_add_right _ _⟩
theorem duties_later (g : GSem nD τ sig) : ∀ r, 1 ≤ r → (rd I).duties g r = ∅ := fun r hr => by
  rcases g with ⟨t, s | q⟩
  · exact if_neg fun h => by omega
  · exact if_neg fun h => by omega
theorem amount_bar (d : Fin 3) : (rd I).amount (barCell c) 0 d = 1 := rfl
theorem amount_dma (q : DmaSem sig) (d : Fin 3) : (rd I).amount (dCell q c) 0 d = N := rfl
theorem expect_bar : (rd I).expect (barCell c) 0 = 3 := by
  unfold Schedule.expect Schedule.amountOf
  rw [duties_bar, Finset.sum_congr rfl fun d _ => amount_bar I c d]; rfl
theorem expect_dma (i : Fin 12) : (rd I).expect (dCell (dq i) c) 0 = N := by
  unfold Schedule.expect Schedule.amountOf; rw [duties_dma, Finset.sum_singleton, amount_dma]

theorem payload_bar (d : Fin 3) : (rd I).payload (barCell c) 0 d = barPay c d := rfl
/-- What is left of a cell's one round when nothing of it has been consumed: the barrier's three payloads, -/
theorem rest_bar : bigSep ((rd I).duties (barCell c) 0 \ ∅) (fun d => (rd I).payload (barCell c) 0 d)
    = iprop(barPay c 0 ∗ barPay c 1 ∗ barPay c 2) := by
  rw [Finset.sdiff_empty, duties_bar, bigSep_univ_eq_bigSepL [0, 1, 2] (by decide) (by decide)]; rfl
/-- a DMA cell's one payload. -/
theorem rest_dma (i : Fin 12) : bigSep ((rd I).duties (dCell (dq i) c) 0 \ ∅) (fun d => (rd I).payload (dCell (dq i) c) 0 d)
    = xferPay I c (7 + i.val - 7) := by
  rw [Finset.sdiff_empty, duties_dma, bigSep_singleton]; rfl

theorem pay_rsS (k : Fin 3) : xferPay I c (7 + k.val - 7) = slotAny sbM k c := by fin_cases k <;> rfl
theorem pay_rsR (k : Fin 3) : xferPay I c (7 + (3 + k.val) - 7) = slotHas rsM k c (sent I (up k c) c) := by fin_cases k <;> rfl
theorem pay_agS (k : Fin 3) : xferPay I c (7 + (6 + k.val) - 7) = redAt (lent k) c (reduced I c) := by fin_cases k <;> rfl
theorem pay_agR (k : Fin 3) : xferPay I c (7 + (9 + k.val) - 7) = slotHas agM k c (boxed (reduced I (up k c))) := by fin_cases k <;> rfl
end Sched

/-! ## What each core owes at launch; the levels -/

/-- What device `c` owes at launch, in the order it pays: a unit to each peer's barrier, then each peer's two landings. -/
def dues (c : Dev nD) : List (GSem nD τ sig × ℕ) :=
  [(barCell (up 0 c), 1), (barCell (up 1 c), 1), (barCell (up 2 c), 1),
   (dCell (rsR (rev 0)) (up 0 c), N), (dCell (rsR (rev 1)) (up 1 c), N), (dCell (rsR (rev 2)) (up 2 c), N),
   (dCell (agR (rev 0)) (up 0 c), N), (dCell (agR (rev 1)) (up 1 c), N), (dCell (agR (rev 2)) (up 2 c), N)]

/-- A list of dues as a tally, the first outermost. -/
def tallies : List (GSem nD τ sig × ℕ) → CellTallies nD τ sig Unit
  | [] => 0
  | p :: l => tallies l + tallyAt p.1 () p.2

/-- What is owed after `n` payments. -/
abbrev Ow (c : Dev nD) (n : ℕ) : CellTallies nD τ sig Unit := tallies ((dues c).drop n)

theorem tallies_pos {l : List (GSem nD τ sig × ℕ)} {g : GSem nD τ sig} {u : Unit} (h : 0 < tallies l g u) : ∃ p ∈ l, p.1 = g := by
  induction l with
  | nil => exact absurd h (Nat.lt_irrefl 0)
  | cons p l ih =>
    by_cases hp : p.1 = g
    · exact ⟨p, List.mem_cons_self, hp⟩
    · unfold tallies at h
      rw [Pi.add_apply, Finsupp.add_apply, tallyAt_apply, if_neg (fun h' => hp h'.1.symm), Nat.add_zero] at h
      obtain ⟨p', hp', e⟩ := ih h
      exact ⟨p', List.mem_cons_of_mem _ hp', e⟩

def L (g : GSem nD τ sig) : Finset Unit := if g.1.2 = .tc then {()} else ∅
/-- Barrier cells at 1, the parts' landings at 2, the finished blocks' landings at 3, the rest at 0. -/
def lv (g : GSem nD τ sig) (_ : Unit) : ℕ := match g.2 with
  | .reg _ => 1
  | .dma q => if 16 ≤ q.val then 3 else if 10 ≤ q.val ∧ q.val < 13 then 2 else 0

theorem L_of_ne (g : GSem nD τ sig) (h : g.1.2 ≠ .tc) : L g = ∅ := if_neg h
theorem L_tc (c : Dev nD) (sm : SemLoc sig) : L ((c : Thread nD τ), sm) = {()} := if_pos rfl

/-- A device may wait on a cell below everything it still owes. -/
theorem mayWait (c : Dev nD) (sm : SemLoc sig) (l : List (GSem nD τ sig × ℕ))
    (h : ∀ p ∈ l, p.1.1.2 = .tc ∧ lv ((c : Thread nD τ), sm) () < lv p.1 ()) :
    (levAts L lv : sProp 𝕄) ⊢ MayWait (c : Thread nD τ) sm () (tallies l) :=
  MayOwe.of_cut (L := L) (lev := lv) (lv ((c : Thread nD τ), sm) ())
    (fun p hp => by rw [Finset.mem_singleton.mp hp, L_tc]; exact Finset.mem_singleton_self _)
    (fun g u hg => by
      obtain ⟨p, hp, rfl⟩ := tallies_pos hg
      show u ∈ L p.1
      unfold L; rw [if_pos (h p hp).1]; exact Finset.mem_singleton_self _)
    (fun p hp => by rw [Finset.mem_singleton.mp hp])
    (fun g u hg => by obtain ⟨p, hp, rfl⟩ := tallies_pos hg; exact (h p hp).2)

/-- At its barrier wait a device owes its six landings, -/
theorem mayWait_bar (c : Dev nD) : (levAts L lv : sProp 𝕄) ⊢ MayWait (c : Thread nD τ) (.reg barS) () (Ow c 3) :=
  mayWait c _ _ (by
    show ∀ p ∈ [_, _, _, _, _, _], _
    simp only [List.forall_mem_cons, List.not_mem_nil, false_imp_iff, implies_true, and_true]
    decide +revert)
/-- at its waits in the first exchange the last three. -/
theorem mayWait_rs (c : Dev nD) (i : Fin 12) (hi : i.val < 6) : (levAts L lv : sProp 𝕄) ⊢ MayWait (c : Thread nD τ) (.dma (dq i)) () (Ow c 6) :=
  mayWait c _ _ (by revert c i; decide)
/-- After its last payment a device may wait on anything. -/
theorem mayWait_end (c : Dev nD) (sm : SemLoc sig) : (levAts L lv : sProp 𝕄) ⊢ MayWait (c : Thread nD τ) sm () (Ow c 9) :=
  mayWait c _ _ (fun _ h => absurd h List.not_mem_nil)

end Cert.Fused

end
-- ==== Proof.Steps.lean ====
/-
  A device's invariants and tokens, and each communication of the kernel as one step: a signal, a transfer of a part, a
  transfer of the finished block, a wait. A wait leaves its cell closed, the counter back in hand at zero.
-/
module

public import proofs.«01_k».proof.Proof.Proto

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## What a slot reads after a transfer has landed in it -/

/-- Reading a slot through its squeezed view and with its leading unit axis give the same elements. -/
theorem slot_read (M : Memref sig .tc .vmem S3x256x768 .bf16) (k : Fin 3) (f : M.view.ty.Contents (Elt F)) :
    (slotM M k).view.read (Elt F) f
      = fun y => M.view.readAt (Elt F) (slotR k).toLoadRect f (Shape.reshapeEquiv squeezes_S1x256x768_S256x768.numel_eq y) := rfl

/-- A slot that a transfer filled with `w` reads as `w` with a leading unit axis. -/
theorem slot_landed (M : Memref sig .tc .vmem S3x256x768 .bf16) (k : Fin 3) (f : M.view.ty.Contents (Elt F)) (w : FVec F S256x768 .bf16) :
    M.view.readAt (Elt F) (slotR k).toLoadRect ((slotM M k).view.write (Elt F) f w Finset.univ) = boxed w := by
  funext y
  have h := congrFun ((slotM M k).view.read_write_univ f w) ((Shape.reshapeEquiv squeezes_S1x256x768_S256x768.numel_eq).symm y)
  rw [slot_read] at h
  exact (congrArg _ (Equiv.apply_symm_apply _ y).symm).trans h

/-- A slot filled from a slot that reads as `X` reads as `X`. -/
theorem slot_to_slot (M M' : Memref sig .tc .vmem S3x256x768 .bf16) (k k' : Fin 3) (f : M.view.ty.Contents (Elt F))
    (f' : M'.view.ty.Contents (Elt F)) (X : Vec F S1x256x768 .bf16) (h : M.view.readAt (Elt F) (slotR k).toLoadRect f = X) :
    M'.view.readAt (Elt F) (slotR k').toLoadRect ((slotM M' k').view.write (Elt F) f' ((slotM M k).view.read (Elt F) f) Finset.univ) = X := by
  rw [slot_landed, slot_read, h]
  funext y
  exact congrArg X (Equiv.apply_symm_apply _ y)

/-! ## The protocol's ghost state -/

/-- Three, one a peer. -/
abbrev three (P : Fin 3 → sProp 𝕄) : sProp 𝕄 := iprop(P 0 ∗ P 1 ∗ P 2)

variable (I : Dev nD → Ins F)

/-- A device's cells: its barrier's and its twelve. -/
def cellAt (p : Dev nD × Option (Fin 12)) : GSem nD τ sig := match p.2 with
  | none => barCell p.1
  | some i => dCell (dq i) p.1

/-- The invariants of all devices' cells, at the names `K`. -/
def recs (K : GSem nD τ sig → ℕ) : sProp 𝕄 :=
  bigSep (Finset.univ : Finset (Dev nD × Option (Fin 12))) (fun p => cellInv ER (rd I) (K (cellAt p)) (cellAt p))

instance recs_persistent (K : GSem nD τ sig → ℕ) : BI.Persistent (recs I K) := by unfold recs; infer_instance

theorem recs_at (K : GSem nD τ sig → ℕ) (p : Dev nD × Option (Fin 12)) : recs I K ⊢ cellInv ER (rd I) (K (cellAt p)) (cellAt p) :=
  bigSep_elim (Finset.mem_univ p)
theorem recs_bar (K : GSem nD τ sig → ℕ) (c : Dev nD) : recs I K ⊢ cellInv ER (rd I) (K (barCell c)) (barCell c) := recs_at I K (c, none)
theorem recs_dma (K : GSem nD τ sig → ℕ) (c : Dev nD) (i : Fin 12) : recs I K ⊢ cellInv ER (rd I) (K (dCell (dq i) c)) (dCell (dq i) c) :=
  recs_at I K (c, some i)

/-- The duty tokens a device pays with. -/
def toks (c : Dev nD) : sProp 𝕄 :=
  iprop(three (fun k => dutyTok ER (barCell (up k c)) 0 (rev k))
    ∗ three (fun k => dutyTok ER (dCell (rsS k) c) 0 0) ∗ three (fun k => dutyTok ER (dCell (rsR (rev k)) (up k c)) 0 0)
    ∗ three (fun k => dutyTok ER (dCell (agS k) c) 0 0) ∗ three (fun k => dutyTok ER (dCell (agR (rev k)) (up k c)) 0 0))

/-- From launch to the kernel: the names, the position on the barrier's cell, the right to open the twelve others, that the
    peers' barriers are open, the tokens. -/
def ghost (K : GSem nD τ sig → ℕ) (c : Dev nD) : sProp 𝕄 :=
  iprop(recs I K ∗ atPos ER (barCell c) 0 ∅ 0 ∗ bigSep (Finset.univ : Finset (Fin 12)) (fun i => openTok ER (dCell (dq i) c))
    ∗ three (fun k => reached ER (barCell (up k c)) 0) ∗ toks c)

/-- The same with the twelve cells opened. -/
def opened (K : GSem nD τ sig → ℕ) (c : Dev nD) : sProp 𝕄 :=
  iprop(recs I K ∗ atPos ER (barCell c) 0 ∅ 0
    ∗ bigSep (Finset.univ : Finset (Fin 12)) (fun i => iprop(atPos ER (dCell (dq i) c) 0 ∅ 0 ∗ reached ER (dCell (dq i) c) 0))
    ∗ three (fun k => reached ER (barCell (up k c)) 0) ∗ toks c)

/-- What a device waits with. -/
def creds (c : Dev nD) : sProp 𝕄 :=
  iprop(cred (tallyAt (barCell c) () 3) ∗ three (fun k => cred (tallyAt (dCell (rsR k) c) () N)) ∗ three (fun k => cred (tallyAt (dCell (agR k) c) () N)))

/-- Opening the twelve cells. -/
theorem open_all (K : GSem nD τ sig → ℕ) (c : Dev nD) :
    iprop(ghost I K c ∗ bigSep (Finset.univ : Finset (Fin 12)) (fun i => semVal (dCell (dq i) c) 0)) ⊢ (|={Set.univ}=> opened I K c : sProp 𝕄) := by
  unfold ghost opened
  iintro ⟨⟨#HR, Hat, Ho, Hr, Ht⟩, Hv⟩
  ihave H := ((show iprop(bigSep (Finset.univ : Finset (Fin 12)) (fun i => openTok ER (dCell (dq i) c))
      ∗ bigSep (Finset.univ : Finset (Fin 12)) (fun i => semVal (dCell (dq i) c) 0))
      ⊢ (bigSep (Finset.univ : Finset (Fin 12)) (fun i => iprop(openTok ER (dCell (dq i) c) ∗ semVal (dCell (dq i) c) 0)) : sProp 𝕄)
    from Entails.of_eq (bigSep_sep' _ _ _).symm)) $$ [Ho Hv]
  · isplitl [Ho] <;> iassumption
  ihave #HI := (bigSep_intro_persistent (S := (Finset.univ : Finset (Fin 12))) (fun i _ => recs_dma I K c i)) $$ HR
  ihave H := ((Entails.of_eq (bigSep_sep' _ _ _).symm).trans (bigSep_mono (s := (Finset.univ : Finset (Fin 12)))
      (Φ := fun i => iprop(cellInv ER (rd I) (K (dCell (dq i) c)) (dCell (dq i) c) ∗ (openTok ER (dCell (dq i) c) ∗ semVal (dCell (dq i) c) 0)))
      (Ψ := fun i => iprop(|={Set.univ}=> (atPos ER (dCell (dq i) c) 0 ∅ 0 ∗ reached ER (dCell (dq i) c) 0)))
      (fun i _ => Rounds.cell_open ER (rd I) (κ := K (dCell (dq i) c)) (Set.mem_univ _)))) $$ [H]
  · isplitr; · iexact HI
    iexact H
  imod (bigSep_fupd _ _) $$ H with H
  imodintro
  isplitr; · iexact HR
  isplitl [Hat]; · iexact Hat
  isplitl [H]; · iexact H
  isplitl [Hr] <;> iassumption

/-! ## The steps -/

/-- Owed, whatever has been waited for. -/
def owing (c : Dev nD) (O : CellTallies nD τ sig Unit) : sProp 𝕄 := iprop(∃ W, owes (c : Thread nD τ) O W)

theorem close (κ : ℕ) (g : GSem nD τ sig) :
    iprop(cellInv ER (rd I) κ g ∗ atPos ER g (0 + 1) ∅ 0) ⊢ (|={Set.univ}=> semVal g 0 : sProp 𝕄) :=
  Rounds.cell_close ER (rd I) (Set.mem_univ κ) id (duties_later I g)

variable {I}

/-- The signal to `up k c`: it hands over the own slots `k` of the two landing buffers. -/
theorem step_signal {K : GSem nD τ sig → ℕ} (c c' : Dev nD) (k : Fin 3) (hc : c' = up k c) {O₀ : CellTallies nD τ sig Unit}
    (O : CellTallies nD τ sig Unit) (hO : O₀ = O + tallyAt (barCell (up k c)) () 1)
    {α : Type} {cont : PUnit → Prog (TpuEff nD τ sig (Elt F) Λ₀ .tc) α} {Q : α → sProp 𝕄} :
    iprop(recs I K ∗ owing c O₀ ∗ dutyTok ER (barCell (up k c)) 0 (rev k) ∗ reached ER (barCell (up k c)) 0
        ∗ slotAny rsM k c ∗ slotAny agM k c ∗ reached ER (dCell (rsR k) c) 0 ∗ reached ER (dCell (agR k) c) 0)
      ⊢ iprop((owing c O -∗ wp frame (wpE (defs₀ (F := F)) 𝒱₀ c none) Set.univ (cont ⟨⟩) Q)
          -∗ wp frame (wpE (defs₀ (F := F)) 𝒱₀ c none) Set.univ (.op (.semSignal (c' : Thread nD τ) barS 1) cont) Q) := by
  subst hc
  unfold owing
  iintro ⟨#HR, ⟨%W, HO⟩, Ht, Hr, Hrs, Hag, Hr1, Hr2⟩ Hk
  iapply (Rounds.wp_signal 𝒱₀ ER (rd I) (c : Thread nD τ) none (dst := (up k c : Thread nD τ)) (sem := barS) (r := 0) (d := rev k)
      (κ := K (barCell (up k c))) (by rw [duties_bar]; exact Finset.mem_univ _) (amount_bar I (up k c) (rev k)) () O hO)
    $$ [HO Ht Hr Hrs Hag Hr1 Hr2]
  · isplitr; · iapply (recs_bar I K (up k c)); iexact HR
    isplitl [HO]; · iexact HO
    isplitl [Ht]; · iexact Ht
    isplitr [Hr]
    · rw [payload_bar]; unfold barPay; rw [up_up, rev_rev]
      isplitl [Hrs]; · iexact Hrs
      isplitl [Hag]; · iexact Hag
      isplitl [Hr1] <;> iassumption
    · iexact Hr
  iintro HO; iapply Hk; iexists _; iexact HO

/-- The barrier's wait: the three peers' landing slots. -/
theorem step_barrier {K : GSem nD τ sig → ℕ} (c : Dev nD) {O : CellTallies nD τ sig Unit}
    {α : Type} {cont : PUnit → Prog (TpuEff nD τ sig (Elt F) Λ₀ .tc) α} {Q : α → sProp 𝕄} :
    iprop(recs I K ∗ cred (tallyAt (barCell c) () 3) ∗ owing c O ∗ MayWait (c : Thread nD τ) (.reg barS) () O ∗ atPos ER (barCell c) 0 ∅ 0)
      ⊢ iprop(((owing c O ∗ semVal (barCell c) 0 ∗ three (barPay c)) -∗ wp frame (wpE (defs₀ (F := F)) 𝒱₀ c none) Set.univ (cont ⟨⟩) Q)
          -∗ wp frame (wpE (defs₀ (F := F)) 𝒱₀ c none) Set.univ (.op (.semWait barS 3) cont) Q) := by
  unfold owing
  iintro ⟨#HR, Hc, ⟨%W, HO⟩, Hm, Hat⟩ Hk
  iapply (Rounds.wp_wait_rest_token 𝒱₀ ER (rd I) (c : Thread nD τ) none (κ := K (barCell c))
      (wpE_semWait_eq 𝒱₀ (c : Thread nD τ) none Set.univ) (Set.mem_univ _) () (O := O) (W := W) (R := 0) (m := 0) (T := ∅)
      ((Nat.zero_add 3).trans (expect_bar I c).symm)) $$ [Hc HO Hm Hat]
  · isplitr; · iapply (recs_bar I K c); iexact HR
    isplitl [Hc]; · iexact Hc
    isplitl [HO]; · iexact HO
    isplitl [Hm] <;> iassumption
  iintro ⟨HO, Hat, -, Hp⟩
  ihave Hp' := (Entails.of_eq (rest_bar I c)) $$ Hp
  imod (close I (K (barCell c)) (barCell c)) $$ [Hat] with Hv
  · isplitr; · iapply (recs_bar I K c); iexact HR
    iexact Hat
  iapply Hk
  isplitl [HO]; · iexists _; iexact HO
  isplitl [Hv] <;> iassumption

/-- A wait for one of the own twelve cells. -/
theorem step_wait {K : GSem nD τ sig → ℕ} (c : Dev nD) (i : Fin 12) {O : CellTallies nD τ sig Unit}
    {src : Memref sig .tc .vmem S256x768 .bf16}
    (dst : Memref sig .tc .vmem S256x768 .bf16) {h₁ : src.view.WordExact} {h₂ : dst.view.WordExact} (hN : dst.view.dmaCredit = N)
    {α : Type} {cont : PUnit → Prog (TpuEff nD τ sig (Elt F) Λ₀ .tc) α} {Q : α → sProp 𝕄} :
    iprop(recs I K ∗ cred (tallyAt (dCell (dq i) c) () N) ∗ owing c O ∗ MayWait (c : Thread nD τ) (.dma (dq i)) () O ∗ atPos ER (dCell (dq i) c) 0 ∅ 0)
      ⊢ iprop(((owing c O ∗ semVal (dCell (dq i) c) 0 ∗ xferPay I c (7 + i.val - 7))
            -∗ wp frame (wpE (defs₀ (F := F)) 𝒱₀ c none) Set.univ (cont ⟨⟩) Q)
          -∗ wp frame (wpE (defs₀ (F := F)) 𝒱₀ c none) Set.univ (.op (.waitDma2 (dq i) src dst h₁ h₂) cont) Q) := by
  unfold owing
  iintro ⟨#HR, Hc, ⟨%W, HO⟩, Hm, Hat⟩ Hk
  iapply (Rounds.wp_wait_rest_token 𝒱₀ ER (rd I) (c : Thread nD τ) none (κ := K (dCell (dq i) c)) (k' := N)
      (fun _ => (wpE_waitDma2_eq 𝒱₀ (c : Thread nD τ) none Set.univ _).trans (by rw [hN])) (Set.mem_univ _) () (O := O) (W := W) (R := 0) (m := 0) (T := ∅)
      ((Nat.zero_add N).trans (expect_dma I c i).symm)) $$ [Hc HO Hm Hat]
  · isplitr; · iapply (recs_dma I K c i); iexact HR
    isplitl [Hc]; · iexact Hc
    isplitl [HO]; · iexact HO
    isplitl [Hm] <;> iassumption
  iintro ⟨HO, Hat, -, Hp⟩
  ihave Hp' := (Entails.of_eq (rest_dma I c i)) $$ Hp
  imod (close I (K (dCell (dq i) c)) (dCell (dq i) c)) $$ [Hat] with Hv
  · isplitr; · iapply (recs_dma I K c i); iexact HR
    iexact Hat
  iapply Hk
  isplitl [HO]; · iexists _; iexact HO
  isplitl [Hv] <;> iassumption

/-- The transfer of the part for `up k c`, from the own slot `k` to its slot `rev k`. -/
theorem step_part {K : GSem nD τ sig → ℕ} (c c' : Dev nD) (k : Fin 3) (hc : c' = up k c) {O₀ : CellTallies nD τ sig Unit}
    (O : CellTallies nD τ sig Unit) (hO : O₀ = O + tallyAt (dCell (rsR (rev k)) (up k c)) () N)
    (fs : sbM.view.ty.Contents (Elt F)) (hfs : sbM.view.readAt (Elt F) (slotR k).toLoadRect fs = sent I c (up k c))
    {hsc : (slotM rsM (rev k)).view.ref.isScScratch = false} {hsrc : (slotM sbM k).view.WordExact} {hdst : (slotM rsM (rev k)).view.WordExact}
    {hsem : DmaTarget.Typed .vmem (.dma (rsR (rev k))) (.remote (c' : Thread nD τ) (slotM rsM (rev k)) (.dma (rsS k)) hsc)}
    {α : Type} {cont : PUnit → Prog (TpuEff nD τ sig (Elt F) Λ₀ .tc) α} {Q : α → sProp 𝕄} :
    iprop(recs I K ∗ slotAt sbM k c fs ∗ slotAny rsM (rev k) (up k c) ∗ owing c O₀
        ∗ dutyTok ER (dCell (rsS k) c) 0 0 ∗ reached ER (dCell (rsS k) c) 0
        ∗ dutyTok ER (dCell (rsR (rev k)) (up k c)) 0 0 ∗ reached ER (dCell (rsR (rev k)) (up k c)) 0)
      ⊢ iprop(((cred (tallyAt (dCell (rsS k) c) () N) ∗ owing c O) -∗ wp frame (wpE (defs₀ (F := F)) 𝒱₀ c none) Set.univ (cont ⟨⟩) Q)
          -∗ wp frame (wpE (defs₀ (F := F)) 𝒱₀ c none) Set.univ
            (.op (.enqueueDma (slotM sbM k) (.remote (c' : Thread nD τ) (slotM rsM (rev k)) (.dma (rsS k)) hsc) (.dma (rsR (rev k))) hsrc hdst hsem) cont) Q) := by
  subst hc
  unfold owing slotAny
  iintro ⟨#HR, Hs, ⟨%fd, Hd⟩, ⟨%W, HO⟩, Ht1, Hr1, Ht2, Hr2⟩ Hk
  iapply (Rounds.wp_send_pointsTo 𝒱₀ ER (rd I) (c : Thread nD τ) none (c' := (up k c : Thread nD τ)) (src := slotM sbM k) (dst := slotM rsM (rev k))
      (sS := .dma (rsS k)) (sem := .dma (rsR (rev k))) (q := fullShare) (fs := fs) (κ₁ := K (dCell (rsS k) c)) (κ₂ := K (dCell (rsR (rev k)) (up k c)))
      (r₁ := 0) (r₂ := 0) (d₁ := 0) (d₂ := 0) (fd := fd)
      (by rw [duties_dma]; exact Finset.mem_singleton_self _) (by rw [duties_dma]; exact Finset.mem_singleton_self _)
      () () N rfl (amount_dma I c _ 0) (amount_dma I (up k c) _ 0) O hO (W := W)
      ((show slotAt sbM k c fs ⊢ slotAny sbM k c from by unfold slotAny; iintro H; iexists fs; iexact H).trans (Entails.of_eq (pay_rsS I c k).symm))
      ((show slotAt rsM (rev k) (up k c) _ ⊢ slotHas rsM (rev k) (up k c) (sent I (up (rev k) (up k c)) (up k c)) from by
        unfold slotHas; rw [up_up]; iintro H; iexists _; isplitr
        · ipureintro; exact slot_to_slot sbM rsM k (rev k) fs fd _ hfs
        · iexact H).trans (Entails.of_eq (pay_rsR I (up k c) (rev k)).symm))) $$ [Hs Hd HO Ht1 Hr1 Ht2 Hr2]
  · isplitr; · iapply (recs_dma I K c); iexact HR
    isplitr; · iapply (recs_dma I K (up k c)); iexact HR
    isplitl [Hs]; · iexact Hs
    isplitl [Hd]; · iexact Hd
    isplitl [HO]; · iexact HO
    isplitl [Ht1]; · iexact Ht1
    isplitl [Hr1]; · iexact Hr1
    isplitl [Ht2] <;> iassumption
  iintro ⟨Hc, HO⟩; iapply Hk
  isplitl [Hc]; · iexact Hc
  iexists _; iexact HO

/-- The transfer of the finished block to `up k c`, from one share of it to the slot `rev k`. -/
theorem step_block {K : GSem nD τ sig → ℕ} (c c' : Dev nD) (k : Fin 3) (hc : c' = up k c) {O₀ : CellTallies nD τ sig Unit}
    (O : CellTallies nD τ sig Unit) (hO : O₀ = O + tallyAt (dCell (agR (rev k)) (up k c)) () N)
    {hsc : (slotM agM (rev k)).view.ref.isScScratch = false} {hsrc : rdM.view.WordExact} {hdst : (slotM agM (rev k)).view.WordExact}
    {hsem : DmaTarget.Typed .vmem (.dma (agR (rev k))) (.remote (c' : Thread nD τ) (slotM agM (rev k)) (.dma (agS k)) hsc)}
    {α : Type} {cont : PUnit → Prog (TpuEff nD τ sig (Elt F) Λ₀ .tc) α} {Q : α → sProp 𝕄} :
    iprop(recs I K ∗ redAt (lent k) c (reduced I c) ∗ slotAny agM (rev k) (up k c) ∗ owing c O₀
        ∗ dutyTok ER (dCell (agS k) c) 0 0 ∗ reached ER (dCell (agS k) c) 0
        ∗ dutyTok ER (dCell (agR (rev k)) (up k c)) 0 0 ∗ reached ER (dCell (agR (rev k)) (up k c)) 0)
      ⊢ iprop(((cred (tallyAt (dCell (agS k) c) () N) ∗ owing c O) -∗ wp frame (wpE (defs₀ (F := F)) 𝒱₀ c none) Set.univ (cont ⟨⟩) Q)
          -∗ wp frame (wpE (defs₀ (F := F)) 𝒱₀ c none) Set.univ
            (.op (.enqueueDma rdM (.remote (c' : Thread nD τ) (slotM agM (rev k)) (.dma (agS k)) hsc) (.dma (agR (rev k))) hsrc hdst hsem) cont) Q) := by
  subst hc
  unfold owing slotAny
  iintro ⟨#HR, Hs, ⟨%fd, Hd⟩, ⟨%W, HO⟩, Ht1, Hr1, Ht2, Hr2⟩ Hk
  iapply (Rounds.wp_send_pointsTo 𝒱₀ ER (rd I) (c : Thread nD τ) none (c' := (up k c : Thread nD τ)) (src := rdM) (dst := slotM agM (rev k))
      (sS := .dma (agS k)) (sem := .dma (agR (rev k))) (q := lent k) (fs := reduced I c) (κ₁ := K (dCell (agS k) c)) (κ₂ := K (dCell (agR (rev k)) (up k c)))
      (r₁ := 0) (r₂ := 0) (d₁ := 0) (d₂ := 0) (fd := fd)
      (by rw [duties_dma]; exact Finset.mem_singleton_self _) (by rw [duties_dma]; exact Finset.mem_singleton_self _)
      () () N rfl (amount_dma I c _ 0) (amount_dma I (up k c) _ 0) O hO (W := W)
      (Entails.of_eq (pay_agS I c k).symm)
      ((show slotAt agM (rev k) (up k c) _ ⊢ slotHas agM (rev k) (up k c) (boxed (reduced I (up (rev k) (up k c)))) from by
        unfold slotHas; rw [up_up]; iintro H; iexists _; isplitr
        · ipureintro; exact slot_landed agM (rev k) fd (reduced I c)
        · iexact H).trans (Entails.of_eq (pay_agR I (up k c) (rev k)).symm))) $$ [Hs Hd HO Ht1 Hr1 Ht2 Hr2]
  · isplitr; · iapply (recs_dma I K c); iexact HR
    isplitr; · iapply (recs_dma I K (up k c)); iexact HR
    isplitl [Hs]; · iexact Hs
    isplitl [Hd]; · iexact Hd
    isplitl [HO]; · iexact HO
    isplitl [Ht1]; · iexact Ht1
    isplitl [Hr1]; · iexact Hr1
    isplitl [Ht2] <;> iassumption
  iintro ⟨Hc, HO⟩; iapply Hk
  isplitl [Hc]; · iexact Hc
  iexists _; iexact HO

end Cert.Fused

end
-- ==== Proof.Loads.lean ====
/-
  What the kernel's loads and stores read: each chunk's loads are the rows that `part` reads, a stored slot reads as what
  was stored.
-/
module

public import proofs.«01_k».proof.Proof.Steps

@[expose] public section

noncomputable section

namespace Cert.Fused

open Cert.KernelIdeal Cert.KernelIdeal.Gen
open Idealize.ShloMosaic Idealize.ShloMosaic.TcCoe

variable {F : FTy → Type} [FloatOps F] [Named F]

/-- The offsets of a head's keys and values, in closed form: in the loops over the other devices' blocks, -/
theorem off3_eq : ∀ (c : Dev nD) (k : Fin 3) (h : Fin 8),
    k0_off3 c (BitVec.ofNat 32 (1 + k.val)) (BitVec.ofNat 32 h.val) = ![8 * ((up k c).val / 2) + h.val, 0, 0] := by decide +kernel
/-- and in the own block's. -/
theorem off6_eq : ∀ (c : Dev nD) (h : Fin 8), k0_off6 c (BitVec.ofNat 32 h.val) = ![8 * (c.val / 2) + h.val, 0, 0] := by decide +kernel

theorem zero2 : (![0, 0] : Fin 2 → Nat) = fun _ => 0 := by decide

/-- Loads at the offsets of block `d` compute device `i`'s part of it. -/
theorem part_at (i : Ins F) (d : Dev nD) {o₁ : Fin 2 → Nat} {o₂ : Fin 2 → Nat} {o₃ : Fin 8 → Fin 3 → Nat}
    (h₁ : ∀ a, o₁ a + S256x768.size a ≤ S1024x768.size a) (h₂ : ∀ a, o₂ a + S256x512.size a ≤ S512x512.size a)
    (h₃ : ∀ h, ∀ a, o₃ h a + S1x512x64.size a ≤ S16x512x64.size a)
    (e₁ : o₁ = ![256 * d.val, 0]) (e₂ : o₂ = ![256 * (d.val % 2), 0]) (e₃ : ∀ h : Fin 8, o₃ h = ![8 * (d.val / 2) + h.val, 0, 0]) :
    chunkOf ((Memref.whole cc0_stg0_0).view.readAt (Elt F) (Rect.unit (s := S1024x768) o₁ S256x768.size h₁).toLoadRect i.x)
      ((Memref.whole cc0_stg1_0).view.readAt (Elt F) (Rect.unit (s := S768x512) ![0, 0] S768x512.size inb_S768x512_S768x512_0_0).toLoadRect i.wq)
      ((Memref.whole cc0_stg5_0).view.readAt (Elt F) (Rect.unit (s := S512x512) o₂ S256x512.size h₂).toLoadRect i.b)
      (fun h => (Memref.whole cc0_stg2_0).view.readAt (Elt F) (Rect.unit (s := S16x512x64) (o₃ h) S1x512x64.size (h₃ h)).toLoadRect i.k)
      (fun h => (Memref.whole cc0_stg3_0).view.readAt (Elt F) (Rect.unit (s := S16x512x64) (o₃ h) S1x512x64.size (h₃ h)).toLoadRect i.v)
      ((Memref.whole cc0_stg4_0).view.readAt (Elt F) (Rect.unit (s := S512x768) ![0, 0] S512x768.size inb_S512x768_S512x768_0_0).toLoadRect i.wo)
      = part i d := by
  obtain rfl : o₃ = fun h => ![8 * (d.val / 2) + h.val, 0, 0] := funext e₃
  subst e₁ e₂
  have hq : (Memref.whole cc0_stg1_0).view.readAt (Elt F) (Rect.unit (s := S768x512) ![0, 0] S768x512.size inb_S768x512_S768x512_0_0).toLoadRect i.wq = i.wq :=
    Memref.readAt_unit_zero (Elt F) cc0_stg1_0 zero2 inb_S768x512_S768x512_0_0 i.wq
  have ho : (Memref.whole cc0_stg4_0).view.readAt (Elt F) (Rect.unit (s := S512x768) ![0, 0] S512x768.size inb_S512x768_S512x768_0_0).toLoadRect i.wo = i.wo :=
    Memref.readAt_unit_zero (Elt F) cc0_stg4_0 zero2 inb_S512x768_S512x768_0_0 i.wo
  rw [hq, ho]
  rfl

/-- The part for the device `k + 1` places up, as the kernel's loads compute it. -/
theorem part_up (i : Ins F) (c : Dev nD) (k : Fin 3) :
    chunkOf ((Memref.whole cc0_stg0_0).view.readAt (Elt F) (Rect.unit (s := S1024x768) (k0_off1 c (BitVec.ofNat 32 (1 + k.val))) S256x768.size (k0_off1_inb c k)).toLoadRect i.x)
      ((Memref.whole cc0_stg1_0).view.readAt (Elt F) (Rect.unit (s := S768x512) ![0, 0] S768x512.size inb_S768x512_S768x512_0_0).toLoadRect i.wq)
      ((Memref.whole cc0_stg5_0).view.readAt (Elt F) (Rect.unit (s := S512x512) (k0_off2 c (BitVec.ofNat 32 (1 + k.val))) S256x512.size (k0_off2_inb c k)).toLoadRect i.b)
      (fun h => (Memref.whole cc0_stg2_0).view.readAt (Elt F) (Rect.unit (s := S16x512x64) (k0_off3 c (BitVec.ofNat 32 (1 + k.val)) (BitVec.ofNat 32 h.val)) S1x512x64.size (k0_off3_inb c k h)).toLoadRect i.k)
      (fun h => (Memref.whole cc0_stg3_0).view.readAt (Elt F) (Rect.unit (s := S16x512x64) (k0_off3 c (BitVec.ofNat 32 (1 + k.val)) (BitVec.ofNat 32 h.val)) S1x512x64.size (k0_off3_inb c k h)).toLoadRect i.v)
      ((Memref.whole cc0_stg4_0).view.readAt (Elt F) (Rect.unit (s := S512x768) ![0, 0] S512x768.size inb_S512x768_S512x768_0_0).toLoadRect i.wo)
      = part i (up k c) :=
  part_at i (up k c) _ _ _ (k0_off1_eq c k) (k0_off2_eq c k) (off3_eq c k)

/-- The device's own part, as the kernel's loads compute it. -/
theorem part_own (i : Ins F) (c : Dev nD) :
    chunkOf ((Memref.whole cc0_stg0_0).view.readAt (Elt F) (Rect.unit (s := S1024x768) (k0_off4 c) S256x768.size (k0_off4_inb c)).toLoadRect i.x)
      ((Memref.whole cc0_stg1_0).view.readAt (Elt F) (Rect.unit (s := S768x512) ![0, 0] S768x512.size inb_S768x512_S768x512_0_0).toLoadRect i.wq)
      ((Memref.whole cc0_stg5_0).view.readAt (Elt F) (Rect.unit (s := S512x512) (k0_off5 c) S256x512.size (k0_off5_inb c)).toLoadRect i.b)
      (fun h => (Memref.whole cc0_stg2_0).view.readAt (Elt F) (Rect.unit (s := S16x512x64) (k0_off6 c (BitVec.ofNat 32 h.val)) S1x512x64.size (k0_off6_inb c h)).toLoadRect i.k)
      (fun h => (Memref.whole cc0_stg3_0).view.readAt (Elt F) (Rect.unit (s := S16x512x64) (k0_off6 c (BitVec.ofNat 32 h.val)) S1x512x64.size (k0_off6_inb c h)).toLoadRect i.v)
      ((Memref.whole cc0_stg4_0).view.readAt (Elt F) (Rect.unit (s := S512x768) ![0, 0] S512x768.size inb_S512x768_S512x768_0_0).toLoadRect i.wo)
      = part i c :=
  part_at i c _ _ _ (k0_off4_eq c) (k0_off5_eq c) (off6_eq c)

/-- A slot that was stored whole reads as what was stored. -/
theorem slot_stored (M : Memref sig .tc .vmem S3x256x768 .bf16) (k : Fin 3) (f : M.view.ty.Contents (Elt F)) (w : Vec F S1x256x768 .bf16) :
    M.view.readAt (Elt F) (slotR k).toLoadRect ((M.access (slotR k)).write (Elt F) f w Finset.univ) = w :=
  (M.access (slotR k)).read_write_univ f w

end Cert.Fused

end
-- ==== Proof.Result.lean ====
/-
  The staged result: one block of rows a device, the own block as it was added up, the others as they were received.
-/
module

public import proofs.«01_k».proof.Proof.Loads
public import Idealize.ShloMosaic.Lib.Exec

@[expose] public section

noncomputable section

namespace Cert.Fused

open Cert.KernelIdeal Cert.KernelIdeal.Gen
open Idealize.ShloMosaic Idealize.ShloMosaic.TcCoe

variable {F : FTy → Type} [FloatOps F] [Named F] (I : Dev nD → Ins F)

/-- The block that a row of the result lies in, -/
def blockOf (y : S1024x768.Idx) : Dev nD :=
  ⟨(y 0).val / 256, by have h := (y 0).isLt; change (y 0).val < 1024 at h; show (y 0).val / 256 < 4; omega⟩
/-- and its place within the block. -/
def within (y : S1024x768.Idx) : S256x768.Idx := fun a => match a with
  | 0 => ⟨(y 0).val % 256, Nat.mod_lt _ (by decide)⟩
  | 1 => ⟨(y 1).val, (y 1).isLt⟩

/-- A finished block as device `c` keeps it. -/
def kept (c d : Dev nD) : FVec F S256x768 .f32 :=
  if d = c then total I d else extf .f32 (reduced I d) bitsLt_bf16_f32

/-- The result that device `c` stages. -/
def resultOf (c : Dev nD) : Vec F S1024x768 .f32 := fun y => kept I c (blockOf y) (within y)

theorem kept_own (c : Dev nD) : kept I c c = total I c := if_pos rfl
theorem up_ne (k : Fin 3) (c : Dev nD) : up k c ≠ c := by revert k c; decide
theorem kept_up (c : Dev nD) (k : Fin 3) : kept I c (up k c) = extf .f32 (reduced I (up k c)) bitsLt_bf16_f32 := if_neg (up_ne k c)

/-- A slot's block without its leading axis. -/
theorem unboxed (X : FVec F S256x768 .bf16) : shapeCast S256x768 (boxed X) shapeCasts_S1x256x768_S256x768 = X :=
  funext fun x => congrArg X (Equiv.symm_apply_apply _ x)

/-- Rows `256·d` onwards of the result are block `d`. -/
theorem result_block (c d : Dev nD) (o : Fin 2 → Nat) (ho : o = ![256 * d.val, 0]) (inb) (x : S256x768.Idx) :
    kept I c d x = resultOf I c ((Rect.unit (s := S1024x768) o S256x768.size inb).emb x) := by
  subst ho
  have hx : (x 0).val < 256 := (x 0).isLt
  have hb : blockOf ((Rect.unit (s := S1024x768) ![256 * d.val, 0] S256x768.size inb).emb x) = d := by
    apply Fin.ext; show (256 * d.val + 1 * (x 0).val) / 256 = d.val; omega
  have hw : within ((Rect.unit (s := S1024x768) ![256 * d.val, 0] S256x768.size inb).emb x) = x := by
    funext a; apply Fin.ext
    match a with
    | 0 => show (256 * d.val + 1 * (x 0).val) % 256 = (x 0).val; omega
    | 1 => show 0 + 1 * (x 1).val = (x 1).val; omega
  unfold resultOf; rw [hb, hw]

/-- Every row lies in some block. -/
theorem result_cover (c : Dev nD) (y : S1024x768.Idx) (d : Dev nD) (hd : blockOf y = d) (o : Fin 2 → Nat) (ho : o = ![256 * d.val, 0]) (inb) :
    y ∈ (Rect.unit (s := S1024x768) o S256x768.size inb).set := by
  subst ho hd
  refine (Rect.unit (s := S1024x768) _ S256x768.size inb).mem_set.mpr fun a => ?_
  match a with
  | 0 => exact ⟨(y 0).val % 256, Nat.mod_lt _ (by decide), by show (y 0).val = 256 * ((y 0).val / 256) + 1 * ((y 0).val % 256); omega⟩
  | 1 => exact ⟨(y 1).val, (y 1).isLt, by show (y 1).val = 0 + 1 * (y 1).val; omega⟩

theorem own_or_up (c d : Dev nD) : d = c ∨ d = up 0 c ∨ d = up 1 c ∨ d = up 2 c := by revert c d; decide

/-- The staged result is its own whole view. -/
theorem read_eq (g R : Vec F S1024x768 .f32) (h : ∀ y, (Memref.whole cc0_stg6_0).view.read (Elt F) g y = R y) : g = R := funext h

/-- Four stores, each of one block, leave the staged result, whatever it held before. -/
theorem blocks_written (c : Dev nD) (f : Vec F S1024x768 .f32) {w₀ w₁ w₂ w₃ : Vec F S256x768 .f32} {o₀ o₁ o₂ o₃ : Fin 2 → Nat}
    (e₀ : o₀ = ![256 * c.val, 0]) (e₁ : o₁ = ![256 * (up 0 c).val, 0]) (e₂ : o₂ = ![256 * (up 1 c).val, 0]) (e₃ : o₃ = ![256 * (up 2 c).val, 0])
    (q₀ : w₀ = kept I c c) (q₁ : w₁ = kept I c (up 0 c)) (q₂ : w₂ = kept I c (up 1 c)) (q₃ : w₃ = kept I c (up 2 c)) (h₀ h₁ h₂ h₃) :
    (Memref.whole cc0_stg6_0).view.writes (Elt F) f
      [⟨Rect.unit (s := S1024x768) o₃ S256x768.size h₃, w₃⟩, ⟨Rect.unit (s := S1024x768) o₂ S256x768.size h₂, w₂⟩,
       ⟨Rect.unit (s := S1024x768) o₁ S256x768.size h₁, w₁⟩, ⟨Rect.unit (s := S1024x768) o₀ S256x768.size h₀, w₀⟩] = resultOf I c := by
  subst q₀ q₁ q₂ q₃
  refine read_eq _ _ fun y => ?_
  refine View.read_writes_apply_of_pieces (v := (Memref.whole cc0_stg6_0).view) (f := f) (resultOf I c) _ ?_ y ?_
  · exact List.forall_mem_cons.mpr ⟨result_block I c _ _ e₃ h₃, List.forall_mem_cons.mpr ⟨result_block I c _ _ e₂ h₂,
      List.forall_mem_cons.mpr ⟨result_block I c _ _ e₁ h₁, List.forall_mem_cons.mpr ⟨result_block I c _ _ e₀ h₀, fun _ h => absurd h List.not_mem_nil⟩⟩⟩⟩
  · rcases own_or_up c (blockOf y) with h | h | h | h
    · exact ⟨_, List.mem_cons_of_mem _ (List.mem_cons_of_mem _ (List.mem_cons_of_mem _ List.mem_cons_self)), result_cover c y _ h _ e₀ h₀⟩
    · exact ⟨_, List.mem_cons_of_mem _ (List.mem_cons_of_mem _ List.mem_cons_self), result_cover c y _ h _ e₁ h₁⟩
    · exact ⟨_, List.mem_cons_of_mem _ List.mem_cons_self, result_cover c y _ h _ e₂ h₂⟩
    · exact ⟨_, List.mem_cons_self, result_cover c y _ h _ e₃ h₃⟩

/-- The finished block once stored. -/
theorem red_stored (c : Dev nD) (f : Vec F S256x768 .bf16) (w : Vec F S256x768 .bf16) :
    rdM.view.writes (Elt F) f [⟨Rect.unit (s := S256x768) ![0, 0] S256x768.size inb_S256x768_S256x768_0_0, w⟩] = w :=
  (View.writes_singleton ..).trans (Memref.write_access_unit_zero_univ (Elt F) cc0_scratch3 zero2 inb_S256x768_S256x768_0_0 f w)

end Cert.Fused

end
-- ==== Proof.Body.lean ====
/-
  The kernel's body on one device: from its staged inputs and its protocol state to the staged result.
-/
module

public import proofs.«01_k».proof.Proof.Result
public import proofs.«01_k».proof.Proof.Gen.KernelIdeal.Points
public import Idealize.ShloMosaic.Lib.Exec

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- Device `c`'s buffer of the memref `M`, held whole at `f`. -/
abbrev heldAt {S : Shape} {e : EltTy} (M : Memref sig .tc .vmem S e) (c : Dev nD) (f : Buf (Elt F) (M.view.loc (c : Thread nD τ))) : sProp 𝕄 :=
  M.view.loc (c : Thread nD τ) ↦{fullShare} f

/-- The six staged inputs of device `c`. -/
def wins (i : Ins F) (c : Dev nD) : sProp 𝕄 :=
  iprop(heldAt (Memref.whole cc0_stg0_0) c i.x ∗ heldAt (Memref.whole cc0_stg1_0) c i.wq ∗ heldAt (Memref.whole cc0_stg2_0) c i.k
    ∗ heldAt (Memref.whole cc0_stg3_0) c i.v ∗ heldAt (Memref.whole cc0_stg4_0) c i.wo ∗ heldAt (Memref.whole cc0_stg5_0) c i.b)

/-- The staged result. -/
abbrev outAt (c : Dev nD) (f : Vec F S1024x768 .f32) : sProp 𝕄 := heldAt (Memref.whole cc0_stg6_0) c f

variable (I : Dev nD → Ins F)

def bodyPre (K : GSem nD τ sig → ℕ) (c : Dev nD) : sProp 𝕄 :=
  iprop(opened I K c ∗ creds c ∗ levAts L lv ∗ wins (I c) c ∗ (∃ f, outAt c f)
    ∗ three (fun k => slotAny sbM k c) ∗ three (fun k => slotAny rsM k c) ∗ three (fun k => slotAny agM k c)
    ∗ (∃ f, redAt fullShare c f) ∗ owing c (Ow c 0))

/-- What the kernel leaves: every cell of its own closed at zero, the inputs as they were, the result, the buffers at some
    contents, nothing owed. -/
def bodyPost (c : Dev nD) : sProp 𝕄 :=
  iprop(semVal (barCell c) 0 ∗ bigSep (Finset.univ : Finset (Fin 12)) (fun i => semVal (dCell (dq i) c) 0)
    ∗ wins (I c) c ∗ outAt c (resultOf I c)
    ∗ three (fun k => slotAny sbM k c) ∗ three (fun k => slotAny rsM k c) ∗ three (fun k => slotAny agM k c)
    ∗ (∃ f, redAt fullShare c f) ∗ owing c 0)

theorem all_twelve (Φ : Fin 12 → sProp 𝕄) : bigSep (Finset.univ : Finset (Fin 12)) Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [bigSep_univ_eq_bigSepL [0, 1, 2, 3, 4, 5, 6, 7, 8, 9, 10, 11] (by decide) (by decide)]; rfl

/-- The kernel as the launch calls it. -/
abbrev prog : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) sbM (Memref.isWhole_whole _) rsM (Memref.isWhole_whole _)
    agM (Memref.isWhole_whole _) rdM (Memref.isWhole_whole _) cc0_scratch4 cc0_scratch5 cc0_scratch6 cc0_scratch7

set_option maxHeartbeats 4000000 in
/-- The kernel on device `c`: its parts sent, the others' added, the finished blocks exchanged and stored. -/
theorem body_run (K : GSem nD τ sig → ℕ) (c : Dev nD) (Kt : PUnit → sProp 𝕄) :
    iprop(bodyPre I K c ∗ (bodyPost I c -∗ Kt ⟨⟩))
      ⊢ wp frame (wpE (defs₀ (F := F)) 𝒱₀ c none) Set.univ (prog (F := F)) Kt := by
  unfold bodyPre opened creds wins toks
  rw [all_twelve]
  iintro ⟨⟨⟨#HR, HatB, ⟨⟨HaS0, #HrS0⟩, ⟨HaS1, #HrS1⟩, ⟨HaS2, #HrS2⟩, ⟨HaR0, #HrR0⟩, ⟨HaR1, #HrR1⟩, ⟨HaR2, #HrR2⟩,
      ⟨HbS0, #HqS0⟩, ⟨HbS1, #HqS1⟩, ⟨HbS2, #HqS2⟩, ⟨HbR0, #HqR0⟩, ⟨HbR1, #HqR1⟩, ⟨HbR2, #HqR2⟩⟩, ⟨#HrB0, #HrB1, #HrB2⟩,
      ⟨⟨HtB0, HtB1, HtB2⟩, ⟨HtS0, HtS1, HtS2⟩, ⟨HtR0, HtR1, HtR2⟩, ⟨HuS0, HuS1, HuS2⟩, ⟨HuR0, HuR1, HuR2⟩⟩⟩,
      ⟨HcB, ⟨HcR0, HcR1, HcR2⟩, ⟨HdR0, HdR1, HdR2⟩⟩, #Hlev, ⟨Hx, Hwq, Hk, Hv, Hwo, Hb⟩, ⟨%fo, Hout⟩,
      ⟨Hs0, Hs1, Hs2⟩, ⟨Hp0, Hp1, Hp2⟩, ⟨Hg0, Hg1, Hg2⟩, ⟨%fr, Hred⟩, HO⟩, Hkt⟩
  unfold prog
  rw [cc0_body_eq_skeleton]; unfold cc0_body_skel
  sl_exec
  iapply (step_signal (K := K) c _ 0 (dev1_eq c) (Ow c 1) rfl) $$ [HO HtB0 Hp0 Hg0]
  · isplitr; · iexact HR
    isplitl [HO]; · iexact HO
    isplitl [HtB0]; · iexact HtB0
    isplitr; · iexact HrB0
    isplitl [Hp0]; · iexact Hp0
    isplitl [Hg0]; · iexact Hg0
    isplitr; · iexact HrR0
    iexact HqR0
  iintro HO
  sl_exec
  iapply (step_signal (K := K) c _ 1 (dev2_eq c) (Ow c 2) rfl) $$ [HO HtB1 Hp1 Hg1]
  · isplitr; · iexact HR
    isplitl [HO]; · iexact HO
    isplitl [HtB1]; · iexact HtB1
    isplitr; · iexact HrB1
    isplitl [Hp1]; · iexact Hp1
    isplitl [Hg1]; · iexact Hg1
    isplitr; · iexact HrR1
    iexact HqR1
  iintro HO
  sl_exec
  iapply (step_signal (K := K) c _ 2 (dev3_eq c) (Ow c 3) rfl) $$ [HO HtB2 Hp2 Hg2]
  · isplitr; · iexact HR
    isplitl [HO]; · iexact HO
    isplitl [HtB2]; · iexact HtB2
    isplitr; · iexact HrB2
    isplitl [Hp2]; · iexact Hp2
    isplitl [Hg2]; · iexact Hg2
    isplitr; · iexact HrR2
    iexact HqR2
  iintro HO
  sl_exec
  iapply (step_barrier (K := K) c) $$ [HcB HO HatB]
  · isplitr; · iexact HR
    isplitl [HcB]; · iexact HcB
    isplitl [HO]; · iexact HO
    isplitr; · iapply (mayWait_bar c); iexact Hlev
    iexact HatB
  unfold barPay slotAny
  iintro ⟨HO, HvB, ⟨⟨%fp0, Hp0⟩, ⟨%fg0, Hg0⟩, #HrP0, #HrG0⟩, ⟨⟨%fp1, Hp1⟩, ⟨%fg1, Hg1⟩, #HrP1, #HrG1⟩, ⟨⟨%fp2, Hp2⟩, ⟨%fg2, Hg2⟩, #HrP2, #HrG2⟩⟩
  icases Hs0 with ⟨%fs0, Hs0⟩
  sl_exec
  have e0 : sbM.view.readAt (Elt F) (slotR 0).toLoadRect (body_run.sl.Hs0_w1 I c fs0) = sent I c (up 0 c) :=
    (slot_stored sbM 0 fs0 _).trans (congrArg packed (part_up (I c) c 0))
  iapply (step_part (I := I) (K := K) c _ 0 (dev4_eq c) (Ow c 4) rfl _ e0) $$ [Hs0 Hp0 HO HtS0 HtR0]
  · isplitr; · iexact HR
    isplitl [Hs0]; · iexact Hs0
    isplitl [Hp0]; · unfold slotAny; iexists _; iexact Hp0
    isplitl [HO]; · iexact HO
    isplitl [HtS0]; · iexact HtS0
    isplitr; · iexact HrS0
    isplitl [HtR0]; · iexact HtR0
    iexact HrP0
  iintro ⟨HcS0, HO⟩
  icases Hs1 with ⟨%fs1, Hs1⟩
  sl_exec
  have e1 : sbM.view.readAt (Elt F) (slotR 1).toLoadRect (body_run.sl.Hs1_w1 I c fs1) = sent I c (up 1 c) :=
    (slot_stored sbM 1 fs1 _).trans (congrArg packed (part_up (I c) c 1))
  iapply (step_part (I := I) (K := K) c _ 1 (dev5_eq c) (Ow c 5) rfl _ e1) $$ [Hs1 Hp1 HO HtS1 HtR1]
  · isplitr; · iexact HR
    isplitl [Hs1]; · iexact Hs1
    isplitl [Hp1]; · unfold slotAny; iexists _; iexact Hp1
    isplitl [HO]; · iexact HO
    isplitl [HtS1]; · iexact HtS1
    isplitr; · iexact HrS1
    isplitl [HtR1]; · iexact HtR1
    iexact HrP1
  iintro ⟨HcS1, HO⟩
  icases Hs2 with ⟨%fs2, Hs2⟩
  sl_exec
  have e2 : sbM.view.readAt (Elt F) (slotR 2).toLoadRect (body_run.sl.Hs2_w1 I c fs2) = sent I c (up 2 c) :=
    (slot_stored sbM 2 fs2 _).trans (congrArg packed (part_up (I c) c 2))
  iapply (step_part (I := I) (K := K) c _ 2 (dev6_eq c) (Ow c 6) rfl _ e2) $$ [Hs2 Hp2 HO HtS2 HtR2]
  · isplitr; · iexact HR
    isplitl [Hs2]; · iexact Hs2
    isplitl [Hp2]; · unfold slotAny; iexists _; iexact Hp2
    isplitl [HO]; · iexact HO
    isplitl [HtS2]; · iexact HtS2
    isplitr; · iexact HrS2
    isplitl [HtR2]; · iexact HtR2
    iexact HrP2
  iintro ⟨HcS2, HO⟩
  sl_exec
  iapply (step_wait (I := I) (K := K) c 3 (slotM rsM 0) rfl) $$ [HcR0 HO HaR0]
  · isplitr; · iexact HR
    isplitl [HcR0]; · iexact HcR0
    isplitl [HO]; · iexact HO
    isplitr; · iapply (mayWait_rs c 3 (by decide)); iexact Hlev
    iexact HaR0
  iintro ⟨HO, HvR0, Hp⟩
  ihave Hp := (Entails.of_eq (pay_rsR I c 0)) $$ Hp
  unfold slotHas
  icases Hp with ⟨%gp0, %hp0, Hp0⟩
  sl_exec
  iapply (step_wait (I := I) (K := K) c 4 (slotM rsM 1) rfl) $$ [HcR1 HO HaR1]
  · isplitr; · iexact HR
    isplitl [HcR1]; · iexact HcR1
    isplitl [HO]; · iexact HO
    isplitr; · iapply (mayWait_rs c 4 (by decide)); iexact Hlev
    iexact HaR1
  iintro ⟨HO, HvR1, Hp⟩
  ihave Hp := (Entails.of_eq (pay_rsR I c 1)) $$ Hp
  unfold slotHas
  icases Hp with ⟨%gp1, %hp1, Hp1⟩
  sl_exec
  iapply (step_wait (I := I) (K := K) c 5 (slotM rsM 2) rfl) $$ [HcR2 HO HaR2]
  · isplitr; · iexact HR
    isplitl [HcR2]; · iexact HcR2
    isplitl [HO]; · iexact HO
    isplitr; · iapply (mayWait_rs c 5 (by decide)); iexact Hlev
    iexact HaR2
  iintro ⟨HO, HvR2, Hp⟩
  ihave Hp := (Entails.of_eq (pay_rsR I c 2)) $$ Hp
  unfold slotHas
  icases Hp with ⟨%gp2, %hp2, Hp2⟩
  sl_exec
  iapply (step_wait (I := I) (K := K) c 0 (slotM sbM 0) rfl) $$ [HcS0 HO HaS0]
  · isplitr; · iexact HR
    isplitl [HcS0]; · iexact HcS0
    isplitl [HO]; · iexact HO
    isplitr; · iapply (mayWait_rs c 0 (by decide)); iexact Hlev
    iexact HaS0
  iintro ⟨HO, HvS0, Hs0⟩
  ihave Hs0 := (Entails.of_eq (pay_rsS I c 0)) $$ Hs0
  sl_exec
  iapply (step_wait (I := I) (K := K) c 1 (slotM sbM 1) rfl) $$ [HcS1 HO HaS1]
  · isplitr; · iexact HR
    isplitl [HcS1]; · iexact HcS1
    isplitl [HO]; · iexact HO
    isplitr; · iapply (mayWait_rs c 1 (by decide)); iexact Hlev
    iexact HaS1
  iintro ⟨HO, HvS1, Hs1⟩
  ihave Hs1 := (Entails.of_eq (pay_rsS I c 1)) $$ Hs1
  sl_exec
  iapply (step_wait (I := I) (K := K) c 2 (slotM sbM 2) rfl) $$ [HcS2 HO HaS2]
  · isplitr; · iexact HR
    isplitl [HcS2]; · iexact HcS2
    isplitl [HO]; · iexact HO
    isplitr; · iapply (mayWait_rs c 2 (by decide)); iexact Hlev
    iexact HaS2
  iintro ⟨HO, HvS2, Hs2⟩
  ihave Hs2 := (Entails.of_eq (pay_rsS I c 2)) $$ Hs2
  sl_exec
  have er : rdM.view.writes (Elt F) fr [⟨Rect.unit (s := S256x768) ![0, 0] S256x768.size inb_S256x768_S256x768_0_0, body_run.sl.v858 I c⟩]
      = reduced I c := (red_stored c fr _).trans
    (congrArg (fun p => k0_pay57 (k0_pay55 p (sent I (up 0 c) c) (sent I (up 1 c) c)) (sent I (up 2 c) c)) (part_own (I c) c))
  ihave Hred := (Entails.of_eq (congrArg (fun f => redAt fullShare c f) er)) $$ Hred
  ihave Hred := (pointsTo_share (PosShare.mem_left_op_right fullShare)).1 $$ Hred
  icases Hred with ⟨Hred0, Hred⟩
  ihave Hred := (pointsTo_share (PosShare.mem_left_op_right fullShare.right)).1 $$ Hred
  icases Hred with ⟨Hred1, Hred2⟩
  iapply (step_block (I := I) (K := K) c _ 0 (dev7_eq c) (Ow c 7) rfl) $$ [Hred0 Hg0 HO HuS0 HuR0]
  · isplitr; · iexact HR
    isplitl [Hred0]; · iexact Hred0
    isplitl [Hg0]; · unfold slotAny; iexists _; iexact Hg0
    isplitl [HO]; · iexact HO
    isplitl [HuS0]; · iexact HuS0
    isplitr; · iexact HqS0
    isplitl [HuR0]; · iexact HuR0
    iexact HrG0
  iintro ⟨HdS0, HO⟩
  sl_exec
  iapply (step_block (I := I) (K := K) c _ 1 (dev8_eq c) (Ow c 8) rfl) $$ [Hred1 Hg1 HO HuS1 HuR1]
  · isplitr; · iexact HR
    isplitl [Hred1]; · iexact Hred1
    isplitl [Hg1]; · unfold slotAny; iexists _; iexact Hg1
    isplitl [HO]; · iexact HO
    isplitl [HuS1]; · iexact HuS1
    isplitr; · iexact HqS1
    isplitl [HuR1]; · iexact HuR1
    iexact HrG1
  iintro ⟨HdS1, HO⟩
  sl_exec
  iapply (step_block (I := I) (K := K) c _ 2 (dev9_eq c) (Ow c 9) rfl) $$ [Hred2 Hg2 HO HuS2 HuR2]
  · isplitr; · iexact HR
    isplitl [Hred2]; · iexact Hred2
    isplitl [Hg2]; · unfold slotAny; iexists _; iexact Hg2
    isplitl [HO]; · iexact HO
    isplitl [HuS2]; · iexact HuS2
    isplitr; · iexact HqS2
    isplitl [HuR2]; · iexact HuR2
    iexact HrG2
  iintro ⟨HdS2, HO⟩
  sl_exec
  iapply (step_wait (I := I) (K := K) c 9 (slotM agM 0) rfl) $$ [HdR0 HO HbR0]
  · isplitr; · iexact HR
    isplitl [HdR0]; · iexact HdR0
    isplitl [HO]; · iexact HO
    isplitr; · iapply (mayWait_end c (.dma (dq 9))); iexact Hlev
    iexact HbR0
  iintro ⟨HO, HwR0, Hp⟩
  ihave Hp := (Entails.of_eq (pay_agR I c 0)) $$ Hp
  unfold slotHas
  icases Hp with ⟨%gg0, %hg0, Hg0⟩
  sl_exec
  iapply (step_wait (I := I) (K := K) c 10 (slotM agM 1) rfl) $$ [HdR1 HO HbR1]
  · isplitr; · iexact HR
    isplitl [HdR1]; · iexact HdR1
    isplitl [HO]; · iexact HO
    isplitr; · iapply (mayWait_end c (.dma (dq 10))); iexact Hlev
    iexact HbR1
  iintro ⟨HO, HwR1, Hp⟩
  ihave Hp := (Entails.of_eq (pay_agR I c 1)) $$ Hp
  unfold slotHas
  icases Hp with ⟨%gg1, %hg1, Hg1⟩
  sl_exec
  iapply (step_wait (I := I) (K := K) c 11 (slotM agM 2) rfl) $$ [HdR2 HO HbR2]
  · isplitr; · iexact HR
    isplitl [HdR2]; · iexact HdR2
    isplitl [HO]; · iexact HO
    isplitr; · iapply (mayWait_end c (.dma (dq 11))); iexact Hlev
    iexact HbR2
  iintro ⟨HO, HwR2, Hp⟩
  ihave Hp := (Entails.of_eq (pay_agR I c 2)) $$ Hp
  unfold slotHas
  icases Hp with ⟨%gg2, %hg2, Hg2⟩
  sl_exec
  iapply (step_wait (I := I) (K := K) c 6 rdM rfl) $$ [HdS0 HO HbS0]
  · isplitr; · iexact HR
    isplitl [HdS0]; · iexact HdS0
    isplitl [HO]; · iexact HO
    isplitr; · iapply (mayWait_end c (.dma (dq 6))); iexact Hlev
    iexact HbS0
  iintro ⟨HO, HwS0, Hred0⟩
  ihave Hred0 := (Entails.of_eq (pay_agS I c 0)) $$ Hred0
  sl_exec
  iapply (step_wait (I := I) (K := K) c 7 rdM rfl) $$ [HdS1 HO HbS1]
  · isplitr; · iexact HR
    isplitl [HdS1]; · iexact HdS1
    isplitl [HO]; · iexact HO
    isplitr; · iapply (mayWait_end c (.dma (dq 7))); iexact Hlev
    iexact HbS1
  iintro ⟨HO, HwS1, Hred1⟩
  ihave Hred1 := (Entails.of_eq (pay_agS I c 1)) $$ Hred1
  sl_exec
  iapply (step_wait (I := I) (K := K) c 8 rdM rfl) $$ [HdS2 HO HbS2]
  · isplitr; · iexact HR
    isplitl [HdS2]; · iexact HdS2
    isplitl [HO]; · iexact HO
    isplitr; · iapply (mayWait_end c (.dma (dq 8))); iexact Hlev
    iexact HbS2
  iintro ⟨HO, HwS2, Hred2⟩
  ihave Hred2 := (Entails.of_eq (pay_agS I c 2)) $$ Hred2
  sl_exec
  sl_exec
  have eo := (blocks_written I c fo (o₀ := k0_off4 c) (o₁ := k0_off7 c 0#32) (o₂ := k0_off7 c 1#32) (o₃ := k0_off7 c 2#32) (w₀ := body_run.sl.v851 I c) (w₁ := body_run.sl.v920 I c) (w₂ := body_run.sl.v937 I c) (w₃ := body_run.sl.v954 I c)
    (k0_off4_eq c) (k0_off7_eq c 0) (k0_off7_eq c 1) (k0_off7_eq c 2)
    ((congrArg (fun p => k0_pay56 (k0_pay55 p (sent I (up 0 c) c) (sent I (up 1 c) c)) (sent I (up 2 c) c)) (part_own (I c) c)).trans (kept_own I c).symm)
    ((congrArg (fun w => extf .f32 w bitsLt_bf16_f32) (unboxed (reduced I (up 0 c)))).trans (kept_up I c 0).symm)
    ((congrArg (fun w => extf .f32 w bitsLt_bf16_f32) (unboxed (reduced I (up 1 c)))).trans (kept_up I c 1).symm)
    ((congrArg (fun w => extf .f32 w bitsLt_bf16_f32) (unboxed (reduced I (up 2 c)))).trans (kept_up I c 2).symm)
    (k0_off4_inb c) (k0_off7_inb c 0) (k0_off7_inb c 1) (k0_off7_inb c 2))
  ihave Hout := (Entails.of_eq (congrArg (fun f => outAt c f) eo)) $$ Hout
  ihave Hred := (pointsTo_share (PosShare.mem_left_op_right fullShare.right)).2 $$ [Hred1 Hred2]
  · isplitl [Hred1]; · iexact Hred1
    iexact Hred2
  ihave Hred := (pointsTo_share (PosShare.mem_left_op_right fullShare)).2 $$ [Hred0 Hred]
  · isplitl [Hred0]; · iexact Hred0
    iexact Hred
  rw [wp_ret]
  imodintro
  iapply Hkt
  unfold bodyPost wins
  rw [all_twelve]
  isplitl [HvB]; · iexact HvB
  isplitl [HvS0 HvS1 HvS2 HvR0 HvR1 HvR2 HwS0 HwS1 HwS2 HwR0 HwR1 HwR2]
  · isplitl [HvS0]; · iexact HvS0
    isplitl [HvS1]; · iexact HvS1
    isplitl [HvS2]; · iexact HvS2
    isplitl [HvR0]; · iexact HvR0
    isplitl [HvR1]; · iexact HvR1
    isplitl [HvR2]; · iexact HvR2
    isplitl [HwS0]; · iexact HwS0
    isplitl [HwS1]; · iexact HwS1
    isplitl [HwS2]; · iexact HwS2
    isplitl [HwR0]; · iexact HwR0
    isplitl [HwR1]; · iexact HwR1
    iexact HwR2
  isplitl [Hx Hwq Hk Hv Hwo Hb]
  · isplitl [Hx]; · iexact Hx
    isplitl [Hwq]; · iexact Hwq
    isplitl [Hk]; · iexact Hk
    isplitl [Hv]; · iexact Hv
    isplitl [Hwo] <;> iassumption
  isplitl [Hout]; · iexact Hout
  isplitl [Hs0 Hs1 Hs2]
  · isplitl [Hs0]; · iexact Hs0
    isplitl [Hs1] <;> iassumption
  isplitl [Hp0 Hp1 Hp2]
  · isplitl [Hp0]; · unfold slotAny; iexists _; iexact Hp0
    isplitl [Hp1]; · unfold slotAny; iexists _; iexact Hp1
    unfold slotAny; iexists _; iexact Hp2
  isplitl [Hg0 Hg1 Hg2]
  · isplitl [Hg0]; · unfold slotAny; iexists _; iexact Hg0
    isplitl [Hg1]; · unfold slotAny; iexists _; iexact Hg1
    unfold slotAny; iexists _; iexact Hg2
  isplitl [Hred]; · iexists _; iexact Hred
  iexact HO

end Cert.Fused

end
-- ==== Proof.Region.lean ====
/-
  The kernel's region of @main: what it finds staged, what it leaves, and its record for the launch.
-/
module

public import proofs.«01_k».proof.Proof.Body
public import proofs.«01_k».proof.Proof.Gen.KernelIdeal.Regions
public import Idealize.ShloMosaic.Lib.Ring.FamCut
public import Idealize.ShloMosaic.Lib.Pipeline.RegionTalk

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## The three-slot buffers, whole and cut -/

/-- Two slots of a buffer share no element. -/
theorem slots_apart (M : Memref sig .tc .vmem S3x256x768 .bf16) (k k' : Fin 3) (h : k ≠ k') :
    Disjoint (slotM M k).view.set (slotM M k').view.set := by
  rw [Finset.disjoint_left]
  intro i hi hi'
  obtain ⟨x, -, rfl⟩ := Finset.mem_map.mp hi
  obtain ⟨x', -, e⟩ := Finset.mem_map.mp hi'
  have e' := M.view.emb.injective e
  have e0 : k'.val + 1 * ((Shape.reshapeEquiv squeezes_S1x256x768_S256x768.numel_eq x' : S1x256x768.Idx) 0).val
      = k.val + 1 * ((Shape.reshapeEquiv squeezes_S1x256x768_S256x768.numel_eq x : S1x256x768.Idx) 0).val :=
    congrArg (fun j : S3x256x768.Idx => (j 0).val) e'
  have h1 : ((Shape.reshapeEquiv squeezes_S1x256x768_S256x768.numel_eq x' : S1x256x768.Idx) 0).val < 1 := Fin.isLt _
  have h2 : ((Shape.reshapeEquiv squeezes_S1x256x768_S256x768.numel_eq x : S1x256x768.Idx) 0).val < 1 := Fin.isLt _
  exact h (Fin.ext (by omega))

/-- What the three slots leave of the buffer. -/
def beside (M : Memref sig .tc .vmem S3x256x768 .bf16) (c : Dev nD) : sProp 𝕄 :=
  iprop(∃ f, M.view.loc (c : Thread nD τ) ↦[Ring.restOf (ℓ := M.view.loc (c : Thread nD τ)) (fun k => (slotM M k).view.set)]{fullShare} f)

theorem three_eq (P : Fin 3 → sProp 𝕄) : bigSep Finset.univ P = three P := bigSep_univ_eq_bigSepL [0, 1, 2] (by decide) (by decide) P

theorem slots_cut (M : Memref sig .tc .vmem S3x256x768 .bf16) (c : Dev nD) :
    (iprop(∃ f, heldAt M c f) : sProp 𝕄) ⊢ iprop(three (fun k => slotAny M k c) ∗ beside M c) :=
  (Ring.fam_split_ex (ℓ := M.view.loc (c : Thread nD τ)) (fun k => (slotM M k).view.set) (slots_apart M)).trans
    (sep_mono (Entails.of_eq (three_eq _)) .rfl)

theorem slots_whole (M : Memref sig .tc .vmem S3x256x768 .bf16) (c : Dev nD) :
    iprop(three (fun k => slotAny M k c) ∗ beside M c) ⊢ (iprop(∃ f, heldAt M c f) : sProp 𝕄) := by
  unfold beside
  iintro ⟨H, ⟨%f₀, Hr⟩⟩
  iapply (Ring.fam_join (ℓ := M.view.loc (c : Thread nD τ)) (fun k => (slotM M k).view.set) (slots_apart M) f₀)
  isplitl [H]
  · iapply (Entails.of_eq (three_eq (fun k => slotAny M k c)).symm); iexact H
  iexists f₀; iexact Hr

/-! ## The blocks staged are the arrays -/

theorem blk_x (t : Fin grid0.N) (f : Vec F S1024x768 .bf16) : (win0_0.blk t).view.read (Elt F) f = f := by
  funext y
  exact congrArg f (funext fun a => Fin.ext (by show 0 * _ + 1 * (y a).val = (y a).val; omega))
theorem blk_wq (t : Fin grid0.N) (f : Vec F S768x512 .bf16) : (win0_1.blk t).view.read (Elt F) f = f := by
  funext y
  exact congrArg f (funext fun a => Fin.ext (by show 0 * _ + 1 * (y a).val = (y a).val; omega))
theorem blk_k (t : Fin grid0.N) (f : Vec F S16x512x64 .bf16) : (win0_2.blk t).view.read (Elt F) f = f := by
  funext y
  exact congrArg f (funext fun a => Fin.ext (by show 0 * _ + 1 * (y a).val = (y a).val; omega))
theorem blk_v (t : Fin grid0.N) (f : Vec F S16x512x64 .bf16) : (win0_3.blk t).view.read (Elt F) f = f := by
  funext y
  exact congrArg f (funext fun a => Fin.ext (by show 0 * _ + 1 * (y a).val = (y a).val; omega))
theorem blk_wo (t : Fin grid0.N) (f : Vec F S512x768 .bf16) : (win0_4.blk t).view.read (Elt F) f = f := by
  funext y
  exact congrArg f (funext fun a => Fin.ext (by show 0 * _ + 1 * (y a).val = (y a).val; omega))
theorem blk_b (t : Fin grid0.N) (f : Vec F S512x512 .f32) : (win0_5.blk t).view.read (Elt F) f = f := by
  funext y
  exact congrArg f (funext fun a => Fin.ext (by show 0 * _ + 1 * (y a).val = (y a).val; omega))
/-- The result's block is the whole array: what is written to it is what it then holds. -/
theorem blk_out (t : Fin grid0.N) (f g : Vec F S1024x768 .f32) : (win0_6.blk t).view.write (Elt F) f g Finset.univ = g := by
  funext y
  have e : (win0_6.blk t).view.emb y = y := funext fun a => Fin.ext (by show 0 * _ + 1 * (y a).val = (y a).val; omega)
  have h := congrFun (View.read_write_univ (v := (win0_6.blk t).view) f g) y
  generalize (win0_6.blk t).view.write (Elt F) f g Finset.univ = W at h ⊢
  have h' : W ((win0_6.blk t).view.emb y) = g y := h
  rw [e] at h'
  exact h'

/-! ## What the region finds and leaves -/

variable (m : (ℓ : Loc nD τ sig) → Buf (Elt F) ℓ)

/-- What device `c`'s host code leaves for the kernel. -/
def ins (c : Dev nD) : Ins F where
  x := V9 m c main_v41
  wq := V9 m c main_v43
  k := V9 m c main_v16
  v := V9 m c main_v18
  wo := V9 m c main_arg4
  b := V9 m c main_v40

/-- The result is the only array the region changes. -/
def outs : Outs (F := F) := fun _ r c => if h : r = main_v44 then h ▸ (resultOf (ins m) c) else V9 m c r

theorem outs_result (c : Dev nD) : outs m 10 main_v44 c = resultOf (ins m) c := by
  unfold outs; rw [dif_pos rfl]

/-- The kernel's buffers beside its windows, at some contents. -/
def bufs (c : Dev nD) : sProp 𝕄 :=
  iprop((∃ f, heldAt sbM c f) ∗ (∃ f, heldAt rsM c f) ∗ (∃ f, heldAt agM c f) ∗ (∃ f, heldAt rdM c f))

def Φ₀ (c : Dev nD) : sProp 𝕄 :=
  iprop(((∃ K, opened (ins m) K c) ∗ creds c ∗ levAts L lv) ∗ bufs c ∗ ∃ r, prngReg c r)
def Φ₁ (c : Dev nD) : sProp 𝕄 :=
  iprop(semVal (barCell c) 0 ∗ bigSep (Finset.univ : Finset (Fin 12)) (fun i => semVal (dCell (dq i) c) 0) ∗ bufs c ∗ ∃ r, prngReg c r)

def dats (_ : Fin 1) (c : Dev nD) : Dat τ (Elt F) Unit ℕ UU ℕ cfg0 c where
  A w := V9 m c (Proc.devRef .tc (Pipeline.arrRef cfg0.spec w))
  after w _ := match w with
    | ⟨0, _⟩ => (ins m c).x
    | ⟨1, _⟩ => (ins m c).wq
    | ⟨2, _⟩ => (ins m c).k
    | ⟨3, _⟩ => (ins m c).v
    | ⟨4, _⟩ => (ins m c).wo
    | ⟨5, _⟩ => (ins m c).b
    | ⟨6, _⟩ => resultOf (ins m) c
  Φ t := match t with
    | ⟨0, _⟩ => Φ₀ m c
    | ⟨_ + 1, _⟩ => Φ₁ c
  q _ := fullShare
  owed t := match t with
    | ⟨0, _⟩ => Ow c 0
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem share_eq (p : Fin 1) (c : Dev nD) (w : Fin cfg0.W) : (dats m p c).share w = fullShare := by unfold Dat.share; split <;> rfl

theorem before_x (c : Dev nD) (d) : (dats m 0 c).before (0 : Fin 7) t0_0 d = (ins m c).x := by
  unfold Dat.before; rw [if_pos (fetch0_0 t0_0)]; exact (show (dats m 0 c).fetched (0 : Fin 7) t0_0 d = (win0_0.blk t0_0).view.read (Elt F) (ins m c).x from rfl).trans (blk_x t0_0 _)
theorem before_wq (c : Dev nD) (d) : (dats m 0 c).before (1 : Fin 7) t0_0 d = (ins m c).wq := by
  unfold Dat.before; rw [if_pos (fetch0_1 t0_0)]; exact (show (dats m 0 c).fetched (1 : Fin 7) t0_0 d = (win0_1.blk t0_0).view.read (Elt F) (ins m c).wq from rfl).trans (blk_wq t0_0 _)
theorem before_k (c : Dev nD) (d) : (dats m 0 c).before (2 : Fin 7) t0_0 d = (ins m c).k := by
  unfold Dat.before; rw [if_pos (fetch0_2 t0_0)]; exact (show (dats m 0 c).fetched (2 : Fin 7) t0_0 d = (win0_2.blk t0_0).view.read (Elt F) (ins m c).k from rfl).trans (blk_k t0_0 _)
theorem before_v (c : Dev nD) (d) : (dats m 0 c).before (3 : Fin 7) t0_0 d = (ins m c).v := by
  unfold Dat.before; rw [if_pos (fetch0_3 t0_0)]; exact (show (dats m 0 c).fetched (3 : Fin 7) t0_0 d = (win0_3.blk t0_0).view.read (Elt F) (ins m c).v from rfl).trans (blk_v t0_0 _)
theorem before_wo (c : Dev nD) (d) : (dats m 0 c).before (4 : Fin 7) t0_0 d = (ins m c).wo := by
  unfold Dat.before; rw [if_pos (fetch0_4 t0_0)]; exact (show (dats m 0 c).fetched (4 : Fin 7) t0_0 d = (win0_4.blk t0_0).view.read (Elt F) (ins m c).wo from rfl).trans (blk_wo t0_0 _)
theorem before_b (c : Dev nD) (d) : (dats m 0 c).before (5 : Fin 7) t0_0 d = (ins m c).b := by
  unfold Dat.before; rw [if_pos (fetch0_5 t0_0)]; exact (show (dats m 0 c).fetched (5 : Fin 7) t0_0 d = (win0_5.blk t0_0).view.read (Elt F) (ins m c).b from rfl).trans (blk_b t0_0 _)

/-- What the region's step starts from: the protocol's state, the dues, each window's staging buffer. -/
def stepPre (c : Dev nD) : sProp 𝕄 :=
  iprop(Φ₀ m c ∗ (dats m 0 c).owesAt () t0_0.castSucc
    ∗ (∃ d, owns (c : Thread nD τ) (Memref.whole cc0_stg0_0) fullShare ((dats m 0 c).before (0 : Fin 7) t0_0 d))
    ∗ (∃ d, owns (c : Thread nD τ) (Memref.whole cc0_stg1_0) fullShare ((dats m 0 c).before (1 : Fin 7) t0_0 d))
    ∗ (∃ d, owns (c : Thread nD τ) (Memref.whole cc0_stg2_0) fullShare ((dats m 0 c).before (2 : Fin 7) t0_0 d))
    ∗ (∃ d, owns (c : Thread nD τ) (Memref.whole cc0_stg3_0) fullShare ((dats m 0 c).before (3 : Fin 7) t0_0 d))
    ∗ (∃ d, owns (c : Thread nD τ) (Memref.whole cc0_stg4_0) fullShare ((dats m 0 c).before (4 : Fin 7) t0_0 d))
    ∗ (∃ d, owns (c : Thread nD τ) (Memref.whole cc0_stg5_0) fullShare ((dats m 0 c).before (5 : Fin 7) t0_0 d))
    ∗ (∃ d, owns (c : Thread nD τ) (Memref.whole cc0_stg6_0) fullShare ((dats m 0 c).before (6 : Fin 7) t0_0 d)))

def stepPost (c : Dev nD) : sProp 𝕄 :=
  iprop(Φ₁ c ∗ (dats m 0 c).owesAt () t0_0.succ
    ∗ owns (c : Thread nD τ) (Memref.whole cc0_stg0_0) fullShare (ins m c).x
    ∗ owns (c : Thread nD τ) (Memref.whole cc0_stg1_0) fullShare (ins m c).wq
    ∗ owns (c : Thread nD τ) (Memref.whole cc0_stg2_0) fullShare (ins m c).k
    ∗ owns (c : Thread nD τ) (Memref.whole cc0_stg3_0) fullShare (ins m c).v
    ∗ owns (c : Thread nD τ) (Memref.whole cc0_stg4_0) fullShare (ins m c).wo
    ∗ owns (c : Thread nD τ) (Memref.whole cc0_stg5_0) fullShare (ins m c).b
    ∗ owns (c : Thread nD τ) (Memref.whole cc0_stg6_0) fullShare (resultOf (ins m) c))

/-- A staging buffer that holds what was staged holds the input. -/
theorem staged (c : Dev nD) (b : Ref sig .tc) {D : Type} (g : D → b.ty.Contents (Elt F)) (X : b.ty.Contents (Elt F)) (h : ∀ d, g d = X) :
    (iprop(∃ d, owns (c : Thread nD τ) (Memref.whole b) fullShare (g d)) : sProp 𝕄) ⊢ (((c : Thread nD τ).loc b) ↦{fullShare} X) := by
  iintro ⟨%d, H⟩
  ihave H := (Entails.of_eq ((congrArg (owns (c : Thread nD τ) (Memref.whole b) fullShare) (h d)).trans (owns_whole_eq c b X))) $$ H
  icases H with ⟨%f, %hf, H⟩
  subst hf
  iexact H

/-- A staging buffer at a value owns that value. -/
theorem named_as (c : Dev nD) (b : Ref sig .tc) (X : b.ty.Contents (Elt F)) :
    ((((c : Thread nD τ).loc b) ↦{fullShare} X) : sProp 𝕄) ⊢ owns (c : Thread nD τ) (Memref.whole b) fullShare X := by
  rw [owns_whole_eq]
  iintro H
  iexists X
  isplitr; · ipureintro; rfl
  iexact H

/-- The finished block's buffer, held whole. -/
theorem red_whole (c : Dev nD) (f : Buf (Elt F) (rdM.view.loc (c : Thread nD τ))) : (heldAt rdM c f : sProp 𝕄) = redAt fullShare c f :=
  congrArg (fun s : Finset (Idx (rdM.view.loc (c : Thread nD τ))) => (rdM.view.loc (c : Thread nD τ) ↦[s]{fullShare} f : sProp 𝕄))
    (View.set_whole cc0_scratch3).symm

set_option maxRecDepth 4000 in
theorem step_run (c : Dev nD) : stepPre m c ⊢ wp frame (wpE (defs₀ (F := F)) 𝒱₀ c none) Set.univ (prog (F := F)) (fun _ => stepPost m c) := by
  unfold stepPre Φ₀ bufs
  iintro ⟨⟨⟨⟨%K, Hg⟩, Hc, Hlev⟩, ⟨Hs, Hp, Hga, Hred⟩, Hreg⟩, HO, H0, H1, H2, H3, H4, H5, ⟨%d6, H6⟩⟩
  ihave H6 := (Entails.of_eq (owns_whole_eq c cc0_stg6_0 _)) $$ H6
  icases H6 with ⟨%f6, -, H6⟩
  ihave H0 := (staged c cc0_stg0_0 _ (ins m c).x (before_x m c)) $$ H0
  ihave H1 := (staged c cc0_stg1_0 _ (ins m c).wq (before_wq m c)) $$ H1
  ihave H2 := (staged c cc0_stg2_0 _ (ins m c).k (before_k m c)) $$ H2
  ihave H3 := (staged c cc0_stg3_0 _ (ins m c).v (before_v m c)) $$ H3
  ihave H4 := (staged c cc0_stg4_0 _ (ins m c).wo (before_wo m c)) $$ H4
  ihave H5 := (staged c cc0_stg5_0 _ (ins m c).b (before_b m c)) $$ H5
  ihave Hs := (slots_cut sbM c) $$ Hs
  icases Hs with ⟨Hs, Hs'⟩
  ihave Hp := (slots_cut rsM c) $$ Hp
  icases Hp with ⟨Hp, Hp'⟩
  ihave Hga := (slots_cut agM c) $$ Hga
  icases Hga with ⟨Hga, Hga'⟩
  unfold Dat.owesAt Pipeline.owesWithin
  icases HO with ⟨%W, -, HO⟩
  iapply (body_run (ins m) K c (fun _ => stepPost m c))
  isplitl [Hg Hc Hlev H0 H1 H2 H3 H4 H5 H6 Hs Hp Hga Hred HO]
  · unfold bodyPre wins
    isplitl [Hg]; · iexact Hg
    isplitl [Hc]; · iexact Hc
    isplitl [Hlev]; · iexact Hlev
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists f6; iexact H6
    isplitl [Hs]; · iexact Hs
    isplitl [Hp]; · iexact Hp
    isplitl [Hga]; · iexact Hga
    isplitl [Hred]
    · icases Hred with ⟨%fr, Hred⟩
      iexists fr
      iapply (Entails.of_eq (red_whole c fr)) $$ Hred
    unfold owing
    iexists W; iexact HO
  unfold bodyPost wins
  iintro ⟨Hb, Hd, ⟨H0, H1, H2, H3, H4, H5⟩, H6, Hs, Hp, Hga, ⟨%fr, Hred⟩, HO⟩
  ihave Hs := (slots_whole sbM c) $$ [Hs Hs']
  · isplitl [Hs] <;> iassumption
  ihave Hp := (slots_whole rsM c) $$ [Hp Hp']
  · isplitl [Hp] <;> iassumption
  ihave Hga := (slots_whole agM c) $$ [Hga Hga']
  · isplitl [Hga] <;> iassumption
  unfold stepPost Φ₁ bufs owing
  isplitl [Hb Hd Hs Hp Hga Hred Hreg]
  · isplitl [Hb]; · iexact Hb
    isplitl [Hd]; · iexact Hd
    isplitr [Hreg]
    · isplitl [Hs]; · iexact Hs
      isplitl [Hp]; · iexact Hp
      isplitl [Hga]; · iexact Hga
      iexists fr
      iapply (Entails.of_eq (red_whole c fr).symm) $$ Hred
    iexact Hreg
  isplitl [HO]
  · icases HO with ⟨%W', HO⟩
    unfold Dat.owesAt Pipeline.owesWithin
    iexists W'
    isplitr; · ipureintro; exact fun _ _ => Or.inl trivial
    iexact HO
  isplitl [H0]; · iapply (named_as c cc0_stg0_0 _); iexact H0
  isplitl [H1]; · iapply (named_as c cc0_stg1_0 _); iexact H1
  isplitl [H2]; · iapply (named_as c cc0_stg2_0 _); iexact H2
  isplitl [H3]; · iapply (named_as c cc0_stg3_0 _); iexact H3
  isplitl [H4]; · iapply (named_as c cc0_stg4_0 _); iexact H4
  isplitl [H5]; · iapply (named_as c cc0_stg5_0 _); iexact H5
  iapply (named_as c cc0_stg6_0 _); iexact H6

theorem bigSep_W (Φ : Fin cfg0.W → sProp 𝕄) : bigSep Finset.univ Φ
    = iprop(Φ (0 : Fin 7) ∗ Φ (1 : Fin 7) ∗ Φ (2 : Fin 7) ∗ Φ (3 : Fin 7) ∗ Φ (4 : Fin 7) ∗ Φ (5 : Fin 7) ∗ Φ (6 : Fin 7)) := bigSep_W0 Φ

/-- Window `w`'s staging buffer as the step leaves it. -/
abbrev leftAt (c : Dev nD) (w : Fin cfg0.W) : sProp 𝕄 :=
  owns (c : Thread nD τ) ((cfg0.win w).stage (cfg0.slots t0_0 w)) fullShare ((dats m 0 c).after w t0_0)

set_option maxHeartbeats 4000000 in
/-- The seven together. -/
theorem left_all (c : Dev nD) : stepPost m c ⊢ iprop(Φ₁ c ∗ (dats m 0 c).owesAt () t0_0.succ ∗ bigSep Finset.univ (leftAt m c)) := by
  refine sep_mono .rfl (sep_mono .rfl ?_)
  refine BIBase.Entails.trans ?_ (Entails.of_eq (bigSep_W (leftAt m c)).symm)
  refine sep_mono ?_ (sep_mono ?_ (sep_mono ?_ (sep_mono ?_ (sep_mono ?_ (sep_mono ?_ ?_)))))
  · exact BI.Entails.refl _
  · exact BI.Entails.refl _
  · exact BI.Entails.refl _
  · exact BI.Entails.refl _
  · exact BI.Entails.refl _
  · exact BI.Entails.refl _
  · exact BI.Entails.refl _

/-- The region's one step. -/
theorem body_obligation (c : Dev nD) : BodyObligation (dats m 0 c) (defs₀ (F := F)) 𝒱₀ () Set.univ := fun t => by
  obtain rfl := fin_N0 t
  refine (sep_mono .rfl (sep_mono .rfl (Entails.of_eq (bigSep_W _)))).trans ?_
  refine (show _ ⊢ wp frame (wpE (defs₀ (F := F)) 𝒱₀ c none) Set.univ (prog (F := F)) (fun _ => stepPost m c) from step_run m c).trans
    (wp_mono _ _ _ fun _ => ?_)
  exact left_all m c

/-! ## The region's record -/

/-- What the launch keeps for the region, -/
def Tk (c : Dev nD) : sProp 𝕄 := iprop((∃ K, ghost (ins m) K c) ∗ creds c)
/-- the same with the kernel's own cells opened, -/
def Xk (c : Dev nD) : sProp 𝕄 := iprop((∃ K, opened (ins m) K c) ∗ creds c ∗ levAts L lv)
/-- and what is left after it. -/
def Yk (c : Dev nD) : sProp 𝕄 := semVal (barCell c) 0

theorem hopen (c : Dev nD) : iprop(Tk m c ∗ Pipeline.ownSems0 osem c ∗ levAts L lv) ⊢ (|={Set.univ}=> Xk m c : sProp 𝕄) := by
  unfold Tk Xk Pipeline.ownSems0
  iintro ⟨⟨⟨%K, Hg⟩, Hc⟩, Hs, Hlev⟩
  imod (open_all (ins m) K c) $$ [Hg Hs] with Ho
  · isplitl [Hg]; · iexact Hg
    iexact Hs
  imodintro
  isplitl [Ho]; · iexists K; iexact Ho
  isplitl [Hc] <;> iassumption

theorem hin (c : Dev nD) : iprop(Pipeline.scopedRest spec0 c ∗ (∃ r, prngReg c r) ∗ StableHlo.held (c.tc : Thread nD τ) ∅ (V9 m c) ∗ Xk m c)
    ⊢ Φ₀ m c := by
  rw [scopedRest0_eq]
  unfold Φ₀ bufs Xk
  iintro ⟨Hs, Hp, -, HX⟩
  isplitl [HX]; · iexact HX
  isplitl [Hs]; · iexact Hs
  iexact Hp

theorem hout (c : Dev nD) : Φ₁ c
    ⊢ (iprop(Pipeline.scopedRest spec0 c ∗ (∃ r, prngReg c r) ∗ StableHlo.held (c.tc : Thread nD τ) ∅ (V10 m (outs m) c)
      ∗ Pipeline.ownSems0 osem c ∗ Yk c) : sProp 𝕄) := by
  rw [scopedRest0_eq]
  unfold Φ₁ bufs Yk Pipeline.ownSems0
  iintro ⟨Hb, Hd, Hs, Hp⟩
  isplitl [Hs]; · iexact Hs
  isplitl [Hp]; · iexact Hp
  isplitr; · unfold StableHlo.held; rw [bigSep_empty]; iempintro
  isplitl [Hd]; · iexact Hd
  iexact Hb

theorem dues_above : ∀ (c : Dev nD), ∀ p ∈ dues c, () ∈ L p.1 ∧ (0 : ℕ) < lv p.1 () := by decide

/-- Every due is at a cell of level at least one. -/
theorem cut (c : Dev nD) (t : Fin (cfg0.N + 1)) (g : GSem nD τ sig) (i : Unit) (h : 0 < (dats m 0 c).owed t g i) : i ∈ L g ∧ (0 : ℕ) < lv g i := by
  obtain ⟨t, ht⟩ := t
  cases t with
  | succ n => exact absurd h (Nat.lt_irrefl 0)
  | zero =>
    obtain ⟨p, hp, rfl⟩ := tallies_pos (show 0 < Ow c 0 g i from h)
    exact dues_above c p hp

theorem arr_not_result : ∀ w : Fin 7, w ≠ 6 → Pipeline.arrRef cfg0.spec w ∉ ([main_v44] : List (Ref sig .tc)) := by decide
theorem arr_input : ∀ w : Fin 7, w ≠ 6 → (cfg0.win w).isOut = false := by decide

/-- The result's array after the region. -/
theorem arr_result (c : Dev nD) : (dats m 0 c).arrAt (6 : Fin 7) 1 = resultOf (ins m) c := by
  unfold Dat.arrAt
  rw [dif_pos (show 0 < cfg0.N by decide), if_pos (flush0_6 _)]
  exact blk_out (F := F) t0_0 _ (resultOf (ins m) c)

theorem arr_out (c : Dev nD) (w : Fin 7) : (dats m 0 c).arrAt w cfg0.N = V10 m (outs m) c (Proc.devRef .tc (Pipeline.arrRef cfg0.spec w)) := by
  by_cases h : w = 6
  · subst h
    rw [show cfg0.N = 1 from N_0, arr_result]
    show resultOf (ins m) c = V10 m (outs m) c (Proc.devRef .tc main_v44)
    rw [V10, Function.update_self, outs_result]
  · exact ((dats m 0 c).arrAt_in w (arr_input w h) _).trans (V10_of m (outs m) c _ (arr_not_result w h)).symm

/-- Off the windows' arrays the region changes no buffer. -/
theorem kept_off (c : Dev nD) (b : DevRef τ sig) (h : b ∉ Pipeline.arrRefs (τ := τ) spec0) : V10 m (outs m) c b = V9 m c b :=
  Function.update_of_ne (fun e => h (by
    rw [e]; exact Finset.mem_map_of_mem _ (Finset.mem_image.mpr ⟨(6 : Fin 7), Finset.mem_univ _, rfl⟩))) _ _

theorem staging_low : ∀ (c : Dev nD) (w : Fin 7) (s : Fin (cfg0.win w).nbuf), lv ((c : Thread nD τ), .dma ((cfg0.win w).sem s)) () ≤ 0 := by decide

set_option backward.isDefEq.respectTransparency.types false in
/-- The region's record. -/
def region : Pipeline.RegionSeg (pcfgs (F := F)) adm (dats m) () defs₀ 𝒱₀ L lv 0 :=
  Pipeline.RegionSeg.ofTalk (pcfgs (F := F)) adm (dats m) () defs₀ 𝒱₀ L lv 0 osem (by decide : Pipeline.OwnSemFacts spec0 osem)
    ∅ (Pipeline.ucRefs τ sig \ Pipeline.arrRefs (τ := τ) spec0) (Finset.empty_subset _) launch0.toP rfl (fun c => (body_obligation m c).loose)
    (fun _ => 0) (fun c => Ow c 0) (fun c => (zero_add _).symm) (fun c => rfl) (fun _ => rfl) (share_eq m 0)
    (V9 m) (V10 m (outs m)) (fun c b hb => kept_off m c b (Finset.mem_sdiff.mp (Finset.mem_sdiff.mp hb).1).2)
    (Tk m) Yk (Xk m) Yk (hopen m) (hin m) (hout m)
    (fun c => by iintro H; imodintro; iexact H)
    (fun _ => 0)
    ⟨fun _ w _ => by rw [L_tc]; exact Finset.mem_singleton_self _, fun c w s => staging_low c w s, fun c t g i h => cut m c t g i h⟩
    (fun _ => iprop(emp))
    (fun c w => rfl) (arr_out m)

end Cert.Fused

end
-- ==== Proof.Launch.lean ====
/-
  The launch: the protocol's cells and tokens dealt to the devices, and the run of @main on all of them.
-/
module

public import proofs.«01_k».proof.Proof.Region

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells and the tokens -/

def barEmb : Dev nD ↪ GSem nD τ sig := ⟨fun c => barCell c, fun _ _ h => congrArg (fun g : GSem nD τ sig => g.1.1) h⟩
theorem osem_inj : Function.Injective osem := by decide
def dmaEmb : Dev nD × Fin 12 ↪ GSem nD τ sig :=
  ⟨fun p => dCell (dq p.2) p.1, fun _ _ h =>
    Prod.ext (congrArg (fun g : GSem nD τ sig => g.1.1) h) (osem_inj (congrArg Prod.snd h))⟩

/-- The barriers' cells, open from the start, and the kernel's own, opened by the kernel. -/
abbrev barCells : Finset (GSem nD τ sig) := Finset.univ.map barEmb
abbrev dmaCells : Finset (GSem nD τ sig) := Finset.univ.map dmaEmb

theorem cells_apart : Disjoint barCells dmaCells := by
  rw [Finset.disjoint_left]
  rintro g h₁ h₂
  obtain ⟨c, -, rfl⟩ := Finset.mem_map.mp h₁
  obtain ⟨p, -, h⟩ := Finset.mem_map.mp h₂
  exact absurd (congrArg Prod.snd h) (by rintro ⟨⟩)

theorem cell_mem (p : Dev nD × Option (Fin 12)) : cellAt p ∈ barCells ∪ dmaCells := match p with
  | (c, none) => Finset.mem_union_left _ (Finset.mem_map_of_mem barEmb (Finset.mem_univ c))
  | (c, some i) => Finset.mem_union_right _ (Finset.mem_map_of_mem dmaEmb (Finset.mem_univ (c, i)))

/-- A device's own cells' tokens: three at its barrier, one at each other cell. -/
abbrev tokOf (p : Dev nD × (Fin 3 ⊕ Fin 12)) : GSem nD τ sig × ℕ × Fin 3 := match p.2 with
  | .inl d => (barCell p.1, 0, d)
  | .inr i => (dCell (dq i) p.1, 0, 0)

theorem tok_sems : Function.Injective (fun x : Fin 3 ⊕ Fin 12 => ((match x with | .inl _ => .reg barS | .inr i => osem i : SemLoc sig),
    (match x with | .inl d => d | .inr _ => 0 : Fin 3))) := by decide

theorem tokOf_inj : Function.Injective tokOf := by
  rintro ⟨c, x⟩ ⟨c', x'⟩ h
  have hc : c = c' := by cases x <;> cases x' <;> exact congrArg (fun t : GSem nD τ sig × ℕ × Fin 3 => t.1.1.1) h
  have hs := congrArg (fun t : GSem nD τ sig × ℕ × Fin 3 => (t.1.2, t.2.2)) h
  have hx : x = x' := tok_sems (by cases x <;> cases x' <;> exact hs)
  rw [hc, hx]

def allToks : Finset (GSem nD τ sig × ℕ × Fin 3) := Finset.univ.map ⟨tokOf, tokOf_inj⟩

/-- The launch's ghost element: the staging's own and the protocol's. -/
def u₀ : UU :=
  (initOf (Pipeline.cells cfgs cellOf_inj) (Pipeline.launchToks cfgs cellOf_inj), launchOf barCells dmaCells allToks)

/-- All of the protocol's ghost element, on the first device until it is dealt. -/
def start : sProp 𝕄 := BI.own (ER (launchOf barCells dmaCells allToks))
def G (c : Dev nD) : sProp 𝕄 := if c = 0 then start else iprop(emp)

theorem G_all : bigSep Finset.univ (G (F := F)) = start := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## The tokens, each to the device that pays with it -/

/-- A slot of a device is the reverse slot of the device it is for. -/
def turn : Dev nD × Fin 3 ≃ Dev nD × Fin 3 where
  toFun p := (up p.2 p.1, rev p.2)
  invFun p := (up p.2 p.1, rev p.2)
  left_inv p := by revert p; decide
  right_inv p := by revert p; decide

theorem around (Φ : Dev nD → Fin 3 → sProp 𝕄) :
    (bigSep Finset.univ fun c => three (Φ c)) = bigSep Finset.univ fun c => three (fun k => Φ (up k c) (rev k)) := by
  have h := bigSep_univ_equiv turn (fun p : Dev nD × Fin 3 => Φ p.1 p.2)
  rw [bigSep_univ_prod, bigSep_univ_prod] at h
  simp only [three_eq] at h
  exact h

/-- The tokens as minted, by device. -/
def minted (c : Dev nD) : sProp 𝕄 :=
  iprop(three (fun d => dutyTok ER (barCell c) 0 d)
    ∗ three (fun k => dutyTok ER (dCell (rsS k) c) 0 0) ∗ three (fun k => dutyTok ER (dCell (rsR k) c) 0 0)
    ∗ three (fun k => dutyTok ER (dCell (agS k) c) 0 0) ∗ three (fun k => dutyTok ER (dCell (agR k) c) 0 0))

theorem regroup (a0 a1 a2 a3 a4 a5 a6 a7 a8 a9 a10 a11 : sProp 𝕄) :
    iprop(a0 ∗ a1 ∗ a2 ∗ a3 ∗ a4 ∗ a5 ∗ a6 ∗ a7 ∗ a8 ∗ a9 ∗ a10 ∗ a11)
      ⊢ iprop((a0 ∗ a1 ∗ a2) ∗ (a3 ∗ a4 ∗ a5) ∗ (a6 ∗ a7 ∗ a8) ∗ (a9 ∗ a10 ∗ a11)) := by
  iintro ⟨H0, H1, H2, H3, H4, H5, H6, H7, H8, H9, H10, H11⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6 H7 H8]
  · isplitl [H6]; · iexact H6
    isplitl [H7]; · iexact H7
    iexact H8
  isplitl [H9]; · iexact H9
  isplitl [H10]; · iexact H10
  iexact H11

theorem toks_minted : bigSep allToks (fun x => (dutyTok ER x.1 x.2.1 x.2.2 : sProp 𝕄)) ⊢ bigSep Finset.univ fun c : Dev nD => minted c := by
  unfold allToks; rw [BI.bigSep_map, bigSep_univ_prod]
  refine bigSep_mono fun c _ => ?_
  rw [BI.bigSep_univ_sum]
  unfold minted
  refine BI.sep_mono (Entails.of_eq (three_eq (fun d => dutyTok ER (barCell c) 0 d))) ?_
  rw [all_twelve]
  exact regroup _ _ _ _ _ _ _ _ _ _ _ _

theorem five (A B C D E : Dev nD → sProp 𝕄) :
    (bigSep Finset.univ fun c => iprop(A c ∗ B c ∗ C c ∗ D c ∗ E c))
      = iprop(bigSep Finset.univ A ∗ bigSep Finset.univ B ∗ bigSep Finset.univ C ∗ bigSep Finset.univ D ∗ bigSep Finset.univ E) := by
  rw [bigSep_sep', bigSep_sep', bigSep_sep', bigSep_sep']

theorem toks_around : (bigSep Finset.univ fun c : Dev nD => (minted c : sProp 𝕄)) ⊢ bigSep Finset.univ fun c : Dev nD => toks c := by
  unfold minted toks
  refine (Entails.of_eq (five _ _ _ _ _)).trans (BIBase.Entails.trans ?_ (Entails.of_eq (five _ _ _ _ _).symm))
  rw [around (fun c d => dutyTok ER (barCell c) 0 d), around (fun c k => dutyTok ER (dCell (rsR k) c) 0 0),
    around (fun c k => dutyTok ER (dCell (agR k) c) 0 0)]

/-! ## The launch's credit -/

/-- The cells a device waits on with the launch's credit, and for how much. -/
abbrev waited (i : Fin 7) : SemLoc sig := match i with
  | 0 => .reg barS | 1 => .dma (rsR 0) | 2 => .dma (rsR 1) | 3 => .dma (rsR 2) | 4 => .dma (agR 0) | 5 => .dma (agR 1) | 6 => .dma (agR 2)
abbrev worth (i : Fin 7) : ℕ := if i = 0 then 3 else N

theorem tallies_at (l : List (GSem nD τ sig × ℕ)) (g : GSem nD τ sig) :
    tallies l g () = (l.map (fun p => if g = p.1 then p.2 else 0)).sum := by
  induction l with
  | nil => rfl
  | cons p l ih =>
    rw [List.map_cons, List.sum_cons, ← ih]
    show (tallies l + tallyAt p.1 () p.2 : CellTallies nD τ sig Unit) g () = _
    rw [Pi.add_apply, Finsupp.add_apply, tallyAt_apply, Nat.add_comm]
    by_cases h : g = p.1
    · rw [if_pos ⟨h, rfl⟩, if_pos h]
    · rw [if_neg (fun ⟨h', _⟩ => h h'), if_neg h]

theorem owed_all : ∀ (c : Dev nD) (i : Fin 7),
    ∑ d : Dev nD, ((dues d).map (fun p => if ((c : Thread nD τ), waited i) = p.1 then p.2 else 0)).sum = worth i := by decide +kernel

theorem launch_cell (c : Dev nD) (i : Fin 7) :
    tallyOn ((c : Thread nD τ), waited i) (launchCredit (Pipeline.owing (fun d => Ow d 0)) 0 ((c : Thread nD τ), waited i))
      = (tallyAt ((c : Thread nD τ), waited i) () (worth i) : CellTallies nD τ sig Unit) := by
  unfold tallyAt; refine congrArg _ (Finsupp.ext fun u => ?_); cases u
  rw [Pipeline.launchCredit_owing, Finsupp.single_eq_same, ← owed_all c i]
  exact Finset.sum_congr rfl fun d _ => tallies_at (dues d) _

theorem waited_inj : Function.Injective waited := by decide

theorem creds_dealt (c : Dev nD) : (Pipeline.launchCred (fun d => Ow d 0) c : sProp 𝕄) ⊢ creds c := by
  unfold Pipeline.launchCred
  refine (bigSep_subset (Finset.subset_univ ((Finset.univ : Finset (Fin 7)).image waited))).trans ?_
  rw [bigSep_image_of_injOn (waited_inj.injOn), bigSep_congr (fun i _ => by rw [launch_cell c i]), bigSep_univ_eq_bigSepL [0, 1, 2, 3, 4, 5, 6] (by decide) (by decide)]
  show iprop(cred _ ∗ cred _ ∗ cred _ ∗ cred _ ∗ cred _ ∗ cred _ ∗ cred _) ⊢ _
  unfold creds three
  iintro ⟨H0, H1, H2, H3, H4, H5, H6⟩
  isplitl [H0]; · iexact H0
  isplitl [H1 H2 H3]
  · isplitl [H1]; · iexact H1
    isplitl [H2]; · iexact H2
    iexact H3
  isplitl [H4]; · iexact H4
  isplitl [H5]; · iexact H5
  iexact H6

/-! ## The devices' states at the launch and at the end -/

/-- A device's state apart from its arrays: before the kernel's region and after it. -/
def E (i : Fin 2) (c : Dev nD) : sProp 𝕄 :=
  if i = 0 then iprop(Tk m c ∗ (∃ r, prngReg c r) ∗ ∃ W, owes (c : Thread nD τ) (Ow c 0) W)
  else iprop(Yk c ∗ ∃ W, owes (c : Thread nD τ) (0 : CellTallies nD τ sig Unit) W)

theorem records_made (K : GSem nD τ sig → ℕ) :
    bigSep (barCells ∪ dmaCells) (fun g => (cellInv ER (rd (ins m)) (K g) g : sProp 𝕄)) ⊢ recs (ins m) K := by
  unfold recs
  exact bigSep_intro_persistent fun p _ => bigSep_elim (cell_mem p)

theorem reached_at (k : Fin 3) (c : Dev nD) : bigSep barCells (fun g => (reached ER g 0 : sProp 𝕄)) ⊢ reached ER (barCell (up k c)) 0 :=
  bigSep_elim (Finset.mem_map_of_mem barEmb (Finset.mem_univ (up k c)))

/-- What every device may read of the cells. -/
def known (K : GSem nD τ sig → ℕ) : sProp 𝕄 :=
  iprop(recs (ins m) K ∗ bigSep barCells (fun g => reached ER g 0))
instance known_persistent (K : GSem nD τ sig → ℕ) : BI.Persistent (known m K) := by unfold known; infer_instance
/-- What each device is dealt of the protocol, -/
def dealt (c : Dev nD) : sProp 𝕄 :=
  iprop(atPos ER (barCell c) 0 ∅ 0 ∗ bigSep (Finset.univ : Finset (Fin 12)) (fun i => openTok ER (dCell (dq i) c)) ∗ toks c)
/-- and what it has of its own. -/
def own (c : Dev nD) : sProp 𝕄 :=
  iprop(creds c ∗ prngReg c (ρ c) ∗ owes (c : Thread nD τ) (Ow c 0) ∅)

theorem E_intro (K : GSem nD τ sig → ℕ) (c : Dev nD) : iprop(known m K ∗ (dealt c ∗ own ρ c)) ⊢ (E m 0 c : sProp 𝕄) := by
  unfold known dealt own E Tk ghost
  rw [if_pos rfl]
  iintro ⟨⟨#HR, #Hr⟩, ⟨Hat, Hop, Htok⟩, Hc, Hp, HO⟩
  isplitr [Hp HO]
  · isplitr [Hc]
    · iexists K
      isplitr; · iexact HR
      isplitl [Hat]; · iexact Hat
      isplitl [Hop]; · iexact Hop
      isplitr [Htok]
      · unfold three
        isplitr; · iapply (reached_at 0 c) $$ Hr
        isplitr; · iapply (reached_at 1 c) $$ Hr
        iapply (reached_at 2 c) $$ Hr
      · iexact Htok
    · iexact Hc
  isplitl [Hp]
  · iexists (ρ c); iexact Hp
  · iexists ∅; iexact HO

/-- A family of pairs over the devices is a pair of families. -/
theorem paired (Φ Ψ : Dev nD → sProp 𝕄) :
    (bigSep Finset.univ fun c => iprop(Φ c ∗ Ψ c)) = iprop(bigSep Finset.univ Φ ∗ bigSep Finset.univ Ψ) := by rw [bigSep_sep']

theorem unscoped_eq : ∀ sm : SemLoc sig, sm.isScoped .tc = false → sm = .reg barS := by decide

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The launch: from the machine's counters, arrays and the ghost element to every device's first state. -/
theorem init :
    iprop((bigSep Finset.univ fun c : Dev nD => iprop(unscopedBufs c (fun b => m ((c : Thread nD τ).loc b)) ∗ unscopedSems0 c
          ∗ owes (c : Thread nD τ) (Ow c 0) ∅ ∗ Pipeline.launchCred (fun d => Ow d 0) c ∗ prngReg c (ρ c) ∗ G c)) ∗ levAts L lv)
      ⊢ (|={Set.univ}=> bigSep Finset.univ (fun c : Dev nD => iprop(StableHlo.held (c : Thread nD τ) (Pipeline.ucRefs τ sig) (V0 m c) ∗ E m 0 c))
        : sProp 𝕄) := by
  have hcore (c : Dev nD) : iprop(unscopedBufs c (fun b => m ((c : Thread nD τ).loc b)) ∗ unscopedSems0 c
        ∗ owes (c : Thread nD τ) (Ow c 0) ∅ ∗ Pipeline.launchCred (fun d => Ow d 0) c ∗ prngReg c (ρ c) ∗ G c)
      ⊢ (iprop(StableHlo.held (c : Thread nD τ) (Pipeline.ucRefs τ sig) (V0 m c) ∗ (own ρ c ∗ (semVal (barCell c) 0 ∗ G c))) : sProp 𝕄) := by
    rw [← Pipeline.unscopedBufs_held (Ix := Unit) (Name := ℕ) (U := UU) (Lvl := ℕ) c (V0 m c), unscopedSems0_eq]
    unfold own
    iintro ⟨Hh, Hus, HO, Hcr, Hp, HG⟩
    isplitl [Hh]; · iexact Hh
    isplitl [Hcr Hp HO]
    · isplitl [Hcr]; · iapply (creds_dealt c) $$ Hcr
      isplitl [Hp] <;> iassumption
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep dmaCells (fun g => (openTok ER g : sProp 𝕄))
      ⊢ bigSep Finset.univ (fun c : Dev nD => bigSep (Finset.univ : Finset (Fin 12)) (fun i => openTok ER (dCell (dq i) c))) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (Ow c 0) ∅ ∗ Pipeline.launchCred (fun d => Ow d 0) c ∗ prngReg c (ρ c) ∗ G c))
      ⊢ (bigSep Finset.univ fun c : Dev nD => iprop(StableHlo.held (c : Thread nD τ) (Pipeline.ucRefs τ sig) (V0 m c) ∗ (own ρ c ∗ (semVal (barCell c) 0 ∗ G c))) : sProp 𝕄)
      from bigSep_mono fun c _ => hcore c) $$ H
  ihave H1 := (Entails.of_eq (paired _ _)) $$ H'; icases H1 with ⟨HB, H2⟩
  ihave H3 := (Entails.of_eq (paired _ _)) $$ H2; icases H3 with ⟨Hown, H4⟩
  ihave H5 := (Entails.of_eq (paired _ _)) $$ H4; icases H5 with ⟨Hv, HG⟩
  ihave Hu := (show bigSep Finset.univ (G (F := F)) ⊢ start from Entails.of_eq G_all) $$ HG
  imod (Rounds.fund_launch ER (rd (ins m)) cells_apart (fun g _ h => h) allToks) $$ [Hv Hu] with ⟨%K, -, #Hinv, #Hr, Hat, Hopen, Htok⟩
  · isplitl [Hv]
    · iapply hv $$ Hv
    · unfold start; iexact Hu
  imodintro
  iapply (Entails.of_eq (paired _ _).symm)
  isplitl [HB]; · iexact HB
  iapply (bigSep_with_persistent (R := known m K) (Φ := fun c => iprop(dealt c ∗ own ρ c)) fun c _ => E_intro m ρ K c)
  isplitr
  · unfold known
    isplitr; · iapply (records_made m K) $$ Hinv
    iexact Hr
  iapply (Entails.of_eq (paired _ _).symm)
  isplitr [Hown]
  · unfold dealt
    iapply (Entails.of_eq (paired _ _).symm); isplitl [Hat]; · iapply hat $$ Hat
    iapply (Entails.of_eq (paired _ _).symm); isplitl [Hopen]; · iapply hopen $$ Hopen
    iapply toks_around
    iapply toks_minted $$ Htok
  · iexact Hown

theorem before (c : Dev nD) : iprop(StableHlo.held (c : Thread nD τ) (Pipeline.ucRefs τ sig) (V9 m c) ∗ E m 0 c) ⊢ (region m).pre c := by
  show _ ⊢ iprop(StableHlo.held (c : Thread nD τ) (Pipeline.arrRefs (τ := τ) spec0) (V9 m c) ∗ (∃ r, prngReg c r)
    ∗ (StableHlo.held (c : Thread nD τ) (Pipeline.ucRefs τ sig \ Pipeline.arrRefs (τ := τ) spec0) (V9 m c) ∗ emp) ∗ Tk m c
    ∗ ∃ W, owes (c : Thread nD τ) (0 + Ow c 0) W)
  rw [StableHlo.held_sub_split (c : Thread nD τ) (Pipeline.arrRefs_sub_ucRefs spec0 (by decide)) (V9 m c), zero_add]
  unfold E; rw [if_pos rfl]
  iintro ⟨⟨HA, HB⟩, HT, Hp, HO⟩
  isplitl [HA]; · iexact HA
  isplitl [Hp]; · iexact Hp
  isplitl [HB]
  · isplitl; · iexact HB
    iempintro
  isplitl [HT] <;> iassumption

theorem after (c : Dev nD) : (region m).post c ⊢ iprop(StableHlo.held (c : Thread nD τ) (Pipeline.ucRefs τ sig) (V10 m (outs m) c) ∗ E m 1 c) := by
  show iprop(StableHlo.held (c : Thread nD τ) (Pipeline.arrRefs (τ := τ) spec0) (V10 m (outs m) c) ∗ (∃ r, prngReg c r)
    ∗ (StableHlo.held (c : Thread nD τ) (Pipeline.ucRefs τ sig \ Pipeline.arrRefs (τ := τ) spec0) (V10 m (outs m) c) ∗ emp) ∗ Yk c
    ∗ ∃ W, owes (c : Thread nD τ) (0 : CellTallies nD τ sig Unit) W) ⊢ _
  rw [StableHlo.held_sub_split (c : Thread nD τ) (Pipeline.arrRefs_sub_ucRefs spec0 (by decide)) (V10 m (outs m) c)]
  unfold E; rw [if_neg (by decide)]
  iintro ⟨HA, -, ⟨HB, -⟩, HT, HO⟩
  isplitl [HA HB]
  · isplitl [HA] <;> iassumption
  isplitl [HT] <;> iassumption

/-! ## The run -/

set_option backward.isDefEq.respectTransparency.types false in
/-- The run of @main on the four devices: every execution ends, with the arguments unchanged, the result at the last valuation and every
    counter at zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v45) = V11 m (outs m) c (Proc.devRef .tc main_v45))
      ∧ r.2.sem = fun _ => 0) := by
  refine Pipeline.θ_run_regions_kit_dev_sems (pcfgs (F := F)) adm (dats m) () cellOf_inj EP defs₀ 𝒱₀ L lv m ρ main
    (segs m (outs m) 𝒱₀ L lv (E m) () (dats m) (region m))
    (fun c Q => by
      rewrite [main_chain c, Seg.run_eq_chain,
        show (segs m (outs m) 𝒱₀ L lv (E m) () (dats m) (region m) c).map Seg.prog = [
          StableHlo.seq (hostOps0 c), StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, Prog.lift (.customCall (Pipeline.entry 0) ()), StableHlo.seq hostOps1 ] from rfl]
      dsimp (config := { failIfUnchanged := false }) only
      exact .rfl)
    (fun c => by simp only [segs, Seg.pipes_host, Seg.pipes_region, Seg.pipes_nil]; decide)
    (fun c => Ow c 0) L_of_ne G u₀ (by
      unfold u₀
      iintro Hu
      ihave H := (ownU_pair _ _) $$ Hu
      icases H with ⟨HP, HX⟩
      imodintro
      isplitl [HP]; · iexact HP
      iapply (show start ⊢ bigSep Finset.univ (G (F := F)) from Entails.of_eq G_all.symm)
      unfold start; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V11 m (outs m) c) ∗ Yk c))
    (hch := fun c => ⟨.rfl, .rfl, .rfl, .rfl, .rfl, .rfl, .rfl, .rfl, .rfl, before m c, after m c, by
      show iprop(StableHlo.held (c : Thread nD τ) (Pipeline.ucRefs τ sig) (V11 m (outs m) c) ∗ E m 1 c) ⊢ _
      unfold E; rw [if_neg (by decide)]
      iintro ⟨Hh, HY, HO⟩
      isplitl [Hh HY]
      · isplitl [Hh] <;> iassumption
      iexact HO⟩)
    (hinit := init m ρ)
    (QY := fun c s => ((s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
      ∧ s.mem ((c.tc : Thread nD τ).loc main_v45) = V11 m (outs m) c (Proc.devRef .tc main_v45)) ∧ s.sem (barCell c) = 0)
    (hfin := fun c s' => ?_)
    (hQ := fun s h hs => ⟨fun c => (h c).1, sem_eq_zero hs fun c sm hsm => by obtain rfl := unscoped_eq sm hsm; exact (h c).2⟩)
  unfold StableHlo.held Yk
  iintro ⟨⟨Hh, Hb⟩, HSI⟩
  icombine HSI Hb gives %hb
  ihave Hr := (pointsTo_read_all (Pipeline.ucRefs τ sig) (fun b => ((c : Thread nD τ).1, b)) (V11 m (outs m) c) s') $$ [Hh HSI]
  · isplitl [Hh] <;> iassumption
  icases Hr with ⟨%h, HSI⟩
  imodintro
  isplitr
  · ipureintro
    have hb' : s'.mem.sem (barCell c) = 0 := by simpa using hb
    exact ⟨⟨⟨(h (Proc.devRef .tc main_arg0) (Finset.mem_filter.mpr ⟨StableHlo.devRef_mem_tcRefs main_arg0, by decide⟩)).trans (V11_main_arg0 m (outs m) c),
      (h (Proc.devRef .tc main_arg1) (Finset.mem_filter.mpr ⟨StableHlo.devRef_mem_tcRefs main_arg1, by decide⟩)).trans (V11_main_arg1 m (outs m) c),
      (h (Proc.devRef .tc main_arg2) (Finset.mem_filter.mpr ⟨StableHlo.devRef_mem_tcRefs main_arg2, by decide⟩)).trans (V11_main_arg2 m (outs m) c),
      (h (Proc.devRef .tc main_arg3) (Finset.mem_filter.mpr ⟨StableHlo.devRef_mem_tcRefs main_arg3, by decide⟩)).trans (V11_main_arg3 m (outs m) c),
      (h (Proc.devRef .tc main_arg4) (Finset.mem_filter.mpr ⟨StableHlo.devRef_mem_tcRefs main_arg4, by decide⟩)).trans (V11_main_arg4 m (outs m) c)⟩,
      h (Proc.devRef .tc main_v45) (Finset.mem_filter.mpr ⟨StableHlo.devRef_mem_tcRefs main_v45, by decide⟩)⟩, hb'⟩
  · iexact HSI

end Cert.Fused

end
-- ==== Proof.Words.lean ====
module
public import Idealize.ShloMosaic.PureOps.BitExact
public import proofs.«01_k».proof.Kernel
public import proofs.«01_k».proof.KernelIdeal
public import proofs.«01_k».proof.Proof.Gen.Kernel
public import proofs.«01_k».proof.Proof.Gen.KernelIdeal

@[expose] public section

noncomputable section

namespace Cert.Words

open Idealize.ShloMosaic Idealize.SL.Sem

/-- Over the device's own floats a named constant is the word it is printed with. -/
instance wordNamed : Named Bits where
  named _ _ {φ} bits := FloatOps.ofBits φ bits

attribute [local instance] Cert.Kernel.Gen.facts Cert.KernelIdeal.Gen.facts

set_option maxHeartbeats 40000000 in
/-- With the names read as words, the region of the idealized kernel is the region of the kernel. -/
theorem defs₀_same : Cert.Kernel.defs₀ (F := Bits) = Cert.KernelIdeal.defs₀ (F := Bits) := by
  unfold Cert.Kernel.defs₀ Cert.KernelIdeal.defs₀
  refine congrArg Defs.onTc (funext fun l => ?_)
  match l with
  | 0 =>
    funext a
    obtain ⟨t, s⟩ := a
    exact rfl

set_option maxHeartbeats 40000000 in
/-- The two programs launch the same regions. -/
theorem defs_same : Cert.Kernel.defs (F := Bits) = Cert.KernelIdeal.defs (F := Bits) := by
  unfold Cert.Kernel.defs Cert.KernelIdeal.defs
  rw [defs₀_same]
  rfl

set_option maxHeartbeats 40000000 in
/-- The two programs are the same host program. -/
theorem main_same : Cert.Kernel.main (F := Bits) = Cert.KernelIdeal.main (F := Bits) := rfl

/-- What every run of the idealized kernel over words ends in, every run of the kernel ends in. -/
theorem run_words {s : MemSt Cert.Kernel.nD Cert.Kernel.τ Cert.Kernel.sig (Elt Bits)}
    {Q : PUnit × MemSt Cert.Kernel.nD Cert.Kernel.τ Cert.Kernel.sig (Elt Bits) → Prop}
    (h : θ_run (Cert.KernelIdeal.defs (F := Bits)) (onTc (Cert.KernelIdeal.main (F := Bits))) s Q) :
    θ_run (Cert.Kernel.defs (F := Bits)) (onTc (Cert.Kernel.main (F := Bits))) s Q := by
  rw [defs_same, main_same]
  exact h

end Cert.Words

end
-- ==== Proof.Value.lean ====
/-
  What a device computes for a block of rows, read over the extended reals one element at a time.
-/
module

public import proofs.«01_k».proof.Proof.Chunk
public import proofs.«01_k».proof.Proof.Result
public import Idealize.ShloMosaic.Lib.Pointwise
public import Idealize.ShloMosaic.PureOps.IdealRules

@[expose] public section

set_option maxRecDepth 16384

noncomputable section

namespace Cert.Fused

open Cert.KernelIdeal Cert.KernelIdeal.Gen
open Idealize.ShloMosaic

/-- A weight is the exponential of its score and mask entry. -/
theorem wts_at (q : FVec Ideal S256x512 .bf16) (b : FVec Ideal S256x512 .f32) (k : Vec Ideal S1x512x64 .bf16) (h : Fin 8)
    (r : Fin 256) (j : Fin 512) :
    wts q b k h (ix2 r j) = Ideal.exp (∑ t : Fin 64, q (ix2 r ⟨64 * h.val + t.val, by omega⟩) * k (ix3 0 j t) + b (ix2 r j)) := by
  pointwise [wts]

/-- A context entry is the weighted sum of the values over the sum of the weights. -/
theorem ctx_at (q : FVec Ideal S256x512 .bf16) (b : FVec Ideal S256x512 .f32) (k v : Vec Ideal S1x512x64 .bf16) (h : Fin 8)
    (r : Fin 256) (t : Fin 64) :
    ctx q b k v h (ix2 r t) = Ideal.div (∑ j, wts q b k h (ix2 r j) * v (ix3 0 j t)) (∑ j, wts q b k h (ix2 r j)) := by
  pointwise [ctx]

/-- Column `64·h + t` of the heads beside one another is column `t` of head `h`. -/
theorem heads_at (q : FVec Ideal S256x512 .bf16) (b : FVec Ideal S256x512 .f32) (k v : Fin 8 → Vec Ideal S1x512x64 .bf16)
    (r : Fin 256) (h : Fin 8) (t : Fin 64) (l : Fin 512) (hl : l.val = 64 * h.val + t.val) :
    heads (F := Ideal) q b k v (ix2 r l) = ctx q b (k h) (v h) h (ix2 r t) := by
  pointwise [heads]
  have ht := t.isLt
  obtain ⟨h, hh⟩ := h
  dsimp only at hl
  interval_cases h
  all_goals
    repeat first
      | rw [dif_pos (by omega)]
      | rw [dif_neg (by omega)]
    exact congrArg (ctx q b (k _) (v _) _) (congrArg (ix2 r) (Fin.ext (by dsimp only; omega)))

/-- The device's scaled query of a row. -/
theorem query_at (x : Vec Ideal S256x768 .bf16) (wq : Vec Ideal S768x512 .bf16) (r : Fin 256) (l : Fin 512) :
    k0_pay1 (F := Ideal) x wq (ix2 r l) = ∑ e : Fin 768, x (ix2 r e) * wq (ix2 e l) := by
  pointwise [k0_pay1]

/-- The mask's entry, times minus infinity. -/
theorem bias_at (b : Vec Ideal S256x512 .f32) (r : Fin 256) (j : Fin 512) : k0_pay2 (F := Ideal) b (ix2 r j) = b (ix2 r j) * (⊥ : EReal) := by
  pointwise [k0_pay2]
  exact congrArg _ (IdealRules.named_const.ideal_named_scalar _ _ _ _ rfl)

/-- An entry of a part: the heads' row times the output projection's column. -/
theorem chunk_at (x : Vec Ideal S256x768 .bf16) (wq : Vec Ideal S768x512 .bf16) (b : Vec Ideal S256x512 .f32) (k v : Fin 8 → Vec Ideal S1x512x64 .bf16)
    (wo : Vec Ideal S512x768 .bf16) (r : Fin 256) (n : Fin 768) :
    chunkOf (F := Ideal) x wq b k v wo (ix2 r n) = ∑ l : Fin 512, heads (k0_pay1 x wq) (k0_pay2 b) k v (ix2 r l) * wo (ix2 l n) := by
  pointwise [chunkOf]

/-- A finished entry is the sum of the four devices' parts. -/
theorem total_at (I : Dev nD → Ins Ideal) (c : Dev nD) (r : Fin 256) (n : Fin 768) :
    total (F := Ideal) I c (ix2 r n) = part (I c) c (ix2 r n) + part (I (up 0 c)) c (ix2 r n) + part (I (up 1 c)) c (ix2 r n)
      + part (I (up 2 c)) c (ix2 r n) := by
  pointwise [total, sent, packed, k0_pay55, k0_pay56]

/-- … in whatever order. -/
theorem total_sum (I : Dev nD → Ins Ideal) (c : Dev nD) (r : Fin 256) (n : Fin 768) :
    total (F := Ideal) I c (ix2 r n) = ∑ d : Fin 4, part (I d) c (ix2 r n) := by
  rw [total_at, Fin.sum_univ_four]
  generalize hf : (fun d : Fin 4 => (part (I d) c (ix2 r n) : EReal)) = f
  have e : ∀ d : Fin 4, part (I d) c (ix2 r n) = f d := fun d => congrFun hf d
  rw [e c, e (up 0 c), e (up 1 c), e (up 2 c), e 0, e 1, e 2, e 3]
  clear e hf
  match c with
  | 0 => rfl
  | 1 => show f 1 + f 2 + f 3 + f 0 = _; abel
  | 2 => show f 2 + f 3 + f 0 + f 1 = _; abel
  | 3 => show f 3 + f 0 + f 1 + f 2 = _; abel

/-- What every device keeps of a block is its sum: over the extended reals the received blocks are not rounded. -/
theorem kept_at (I : Dev nD → Ins Ideal) (c d : Dev nD) (r : Fin 256) (n : Fin 768) :
    kept (F := Ideal) I c d (ix2 r n) = ∑ p : Fin 4, part (I p) d (ix2 r n) := by
  rw [← total_sum]
  unfold kept
  split
  · rfl
  · pointwise [reduced, k0_pay57, total]

/-! ## The rows a device reads -/

theorem rowsX_at (f : Vec Ideal S1024x768 .bf16) (d : Dev nD) (r : Fin 256) (n : Fin 768) :
    rowsX (F := Ideal) f d (ix2 r n) = f (ix2 ⟨256 * d.val + r.val, by have := d.isLt; have : d.val < 4 := this; omega⟩ n) := by
  refine congrArg f (funext fun a => Fin.ext ?_)
  match a with
  | 0 => show 256 * d.val + 1 * r.val = 256 * d.val + r.val; rw [Nat.one_mul]
  | 1 => show 0 + 1 * n.val = n.val; rw [Nat.one_mul, Nat.zero_add]

theorem rowsB_at (f : Vec Ideal S512x512 .f32) (d : Dev nD) (r : Fin 256) (n : Fin 512) :
    rowsB (F := Ideal) f d (ix2 r n) = f (ix2 ⟨256 * (d.val % 2) + r.val, by omega⟩ n) := by
  refine congrArg f (funext fun a => Fin.ext ?_)
  match a with
  | 0 => show 256 * (d.val % 2) + 1 * r.val = 256 * (d.val % 2) + r.val; rw [Nat.one_mul]
  | 1 => show 0 + 1 * n.val = n.val; rw [Nat.one_mul, Nat.zero_add]

theorem headK_at (f : Vec Ideal S16x512x64 .bf16) (d : Dev nD) (h : Fin 8) (j : Fin 512) (t : Fin 64) :
    headK (F := Ideal) f d h (ix3 0 j t) = f (ix3 ⟨8 * (d.val / 2) + h.val, by have := d.isLt; have : d.val < 4 := this; omega⟩ j t) := by
  refine congrArg f (funext fun a => Fin.ext ?_)
  match a with
  | 0 => show 8 * (d.val / 2) + h.val + 1 * 0 = _; rfl
  | 1 => show 0 + 1 * j.val = j.val; rw [Nat.one_mul, Nat.zero_add]
  | 2 => show 0 + 1 * t.val = t.val; rw [Nat.one_mul, Nat.zero_add]

theorem headV_at (f : Vec Ideal S16x512x64 .bf16) (d : Dev nD) (h : Fin 8) (j : Fin 512) (t : Fin 64) :
    headV (F := Ideal) f d h (ix3 0 j t) = f (ix3 ⟨8 * (d.val / 2) + h.val, by have := d.isLt; have : d.val < 4 := this; omega⟩ j t) :=
  headK_at f d h j t

end Cert.Fused

end
-- ==== Proof.Host.lean ====
/-
  What a device's host code leaves for the kernel, read one element at a time from the device's arguments.
-/
module

public import proofs.«01_k».proof.Proof.Region
public import Idealize.ShloMosaic.Lib.Pointwise
public import Idealize.ShloMosaic.Lib.StableHlo.ReadAt

@[expose] public section

set_option maxRecDepth 16384

noncomputable section

namespace Cert.Fused

open Cert.KernelIdeal Cert.KernelIdeal.Gen
open Idealize.ShloMosaic

/-! ## The mask -/

/-- The number 64. -/
def c64 : IVec S512 32 := broadcastInDim S512 ![] bcast_S_S512 (id (constantI S_ 32 64#32))
/-- Its sign. -/
def s64 : IVec S512 32 := broadcastInDim S512 ![] bcast_S_S512 (signi (id (constantI S_ 32 64#32)))

/-- Each position's block of 64: the position divided by 64, rounded down. -/
def blocks : IVec S512 32 :=
  select (andi (cmpi .ne (signi (iotaInDim S512 32 0)) s64)
      (cmpi .ne (Host.remsi (iotaInDim S512 32 0) c64) (broadcastInDim S512 ![] bcast_S_S512 (constantI S_ 32 0#32))))
    (subi (Host.divsi (iotaInDim S512 32 0) c64) (broadcastInDim S512 ![] bcast_S_S512 (constantI S_ 32 1#32)))
    (Host.divsi (iotaInDim S512 32 0) c64)

/-- The query's block, in every column, -/
def qBlocks : IVec S512x512 32 :=
  broadcastInDim S512x512 ![0, 1] bcast_S512x1_S512x512_0_1 (broadcastInDim S512x1 ![0] bcast_S512_S512x1_0 blocks)
/-- and the key's block, in every row. -/
def kBlocks : IVec S512x512 32 :=
  broadcastInDim S512x512 ![0, 1] bcast_S1x512_S512x512_0_1 (broadcastInDim S1x512 ![1] bcast_S512_S1x512_1 blocks)

/-- The divisor three, guarded against zero. -/
def three' : IVec S_ 32 := select (cmpi .eq (id (constantI S_ 32 3#32)) (constantI S_ 32 0#32)) (constantI S_ 32 1#32) (id (constantI S_ 32 3#32))
/-- The remainder of the sum of the two blocks by three, before its sign is put right. -/
def rem' : IVec S512x512 32 := Host.remsi (addi qBlocks kBlocks) (broadcastInDim S512x512 ![] bcast_S_S512x512 three')
/-- Zero everywhere. -/
def zero' : IVec S512x512 32 := broadcastInDim S512x512 ![] bcast_S_S512x512 (constantI S_ 32 0#32)
/-- The remainder of the sum of the two blocks by three. -/
def rem3 : IVec S512x512 32 :=
  select (andi (cmpi .ne (cmpi .slt rem' zero') (broadcastInDim S512x512 ![] bcast_S_S512x512 (cmpi .slt three' (constantI S_ 32 0#32))))
      (cmpi .ne rem' zero'))
    (addi rem' (broadcastInDim S512x512 ![] bcast_S_S512x512 three')) rem'

/-- A query sees a key of its own block, of the first block, or of a block whose number and its own add up to a multiple of three. -/
def mask : IVec S512x512 1 :=
  ori (ori (cmpi .eq qBlocks kBlocks)
      (broadcastInDim S512x512 ![0, 1] bcast_S1x512_S512x512_0_1
        (cmpi .eq (broadcastInDim S1x512 ![1] bcast_S512_S1x512_1 blocks) (broadcastInDim S1x512 ![] bcast_S_S1x512 (constantI S_ 32 0#32)))))
    (cmpi .eq rem3 zero')

theorem blocks_zero : blocks (ix1 0) = 0#32 := by
  pointwise [blocks, c64, s64]
  decide

/-- Every query sees the first key. -/
theorem mask_first (i : Fin 512) : mask (ix2 i 0) = 1#1 := by
  have h : ∀ a b : BitVec 1, IntOp.ori (IntOp.ori a 1#1) b = 1#1 := by decide
  pointwise [mask]
  rw [blocks_zero]
  exact h _ _

/-! ## The staged inputs -/

variable (m : (ℓ : Loc nD τ sig) → Buf (Elt Ideal) ℓ)

/-- The activations: the two sequences one after the other. -/
theorem x_at (c : Dev nD) (r : Fin 1024) (e : Fin 768) : (ins m c).x (ix2 r e)
    = (m ((c.tc : Thread nD τ).loc main_arg0) : Vec Ideal S2x512x768 .bf16) (ix3 ⟨r.val / 512, by omega⟩ ⟨r.val % 512, by omega⟩ e) := by
  unfold ins; dsimp only
  after_reads_at

/-- The device's columns of the query weights. -/
def argWq (c : Dev nD) : Vec Ideal S768x512 .bf16 := m ((c.tc : Thread nD τ).loc main_arg1)

/-- The query weights, scaled by 1/8. -/
theorem wq_at (c : Dev nD) (e : Fin 768) (l : Fin 512) : (ins m c).wq (ix2 e l)
    = (argWq m c (ix2 e l) : EReal) * (Ideal.ofBits FTy.bf16 15872#16 : EReal) := by
  unfold ins argWq; dsimp only
  after_reads_at

/-- The output projection's rows are an argument. -/
theorem wo_at (c : Dev nD) (l : Fin 512) (n : Fin 768) : (ins m c).wo (ix2 l n)
    = (m ((c.tc : Thread nD τ).loc main_arg4) : Vec Ideal S512x768 .bf16) (ix2 l n) := by
  unfold ins; dsimp only
  after_reads_at

theorem clamp0 (t : Int) : (min (max t 0) 0).toNat = 0 := by omega

/-- Where a slice of eight heads of 32 starts: at 0 along the axes that it takes whole. -/
theorem start0 (h) (f : Fin 4 → Int) : Host.clampedStart S2x512x32x64 S2x512x8x64 h f 0 = 0 := by
  exact clamp0 _
theorem start1 (h) (f : Fin 4 → Int) : Host.clampedStart S2x512x32x64 S2x512x8x64 h f 1 = 0 := by
  exact clamp0 _
theorem start3 (h) (f : Fin 4 → Int) : Host.clampedStart S2x512x32x64 S2x512x8x64 h f 3 = 0 := by
  exact clamp0 _
/-- Along the heads it starts where the word says. -/
theorem start2 (h) (f : Fin 4 → Int) (n : Nat) (hn : n ≤ 24) (h2 : f 2 = n) :
    Host.clampedStart S2x512x32x64 S2x512x8x64 h f 2 = n :=
  Host.clampedStart_of_le h f 2 n h2 (by show n + 8 ≤ 32; omega)

/-- The words that say at which head a device's heads start. -/
theorem headWord (c : Dev nD) : (select
      (cmpi CmpIPredicate.slt
        (muli (id (Host.remui (Host.divui (constantI S_ 32 c.word) (constantI S_ 32 1#32)) (constantI S_ 32 4#32)))
          (constantI S_ 32 8#32))
        (constantI S_ 32 0#32))
      (addi
        (muli (id (Host.remui (Host.divui (constantI S_ 32 c.word) (constantI S_ 32 1#32)) (constantI S_ 32 4#32)))
          (constantI S_ 32 8#32))
        (constantI S_ 32 32#32))
      (muli (id (Host.remui (Host.divui (constantI S_ 32 c.word) (constantI S_ 32 1#32)) (constantI S_ 32 4#32)))
        (constantI S_ 32 8#32))
      (Shape.Idx.first h_S_) : BitVec 32).toInt = (8 * c.val : Nat) := by
  pointwise
  revert c; show ∀ c : Fin 4, _
  decide

theorem startK (c : Dev nD) : BitVec.toInt (n := 32) ((StableHlo.upto (hostOps0 c) (V0 m c) 16 (Proc.tc.devRef main_v8))
                    (Shape.Idx.first h_S_)) = (8 * c.val : Nat) := by
  after_reads_simp
  exact headWord c

theorem startV (c : Dev nD) : BitVec.toInt (n := 32) ((StableHlo.upto (hostOps0 c) (V0 m c) 27 (Proc.tc.devRef main_v13))
                    (Shape.Idx.first h_S_)) = (8 * c.val : Nat) := by
  after_reads_simp
  exact headWord c

theorem ix4_congr {n0 n1 n2 n3 : Nat} {a a' : Fin n0} {b b' : Fin n1} {d d' : Fin n2} {e e' : Fin n3} (h0 : a.val = a'.val) (h1 : b.val = b'.val)
    (h2 : d.val = d'.val) (h3 : e.val = e'.val) : ix4 a b d e = ix4 a' b' d' e' := by
  rw [Fin.ext h0, Fin.ext h1, Fin.ext h2, Fin.ext h3]

/-- A device's keys: of each sequence, its own eight heads. -/
theorem k_at (c : Dev nD) (r : Fin 16) (n : Fin 512) (t : Fin 64) : (ins m c).k (ix3 r n t)
    = (m ((c.tc : Thread nD τ).loc main_arg2) : Vec Ideal S2x512x32x64 .bf16)
      (ix4 ⟨r.val / 8, by omega⟩ n ⟨8 * c.val + r.val % 8, by have := c.isLt; have : c.val < 4 := this; omega⟩ t) := by
  unfold ins; dsimp only
  after_reads_at
  refine congrArg (V0 m c (Proc.tc.devRef main_arg2)) (ix4_congr ?_ ?_ ?_ ?_) <;> dsimp only
  · rw [start0, Nat.zero_add]
  · rw [start1, Nat.zero_add]
  · rw [start2 _ _ (8 * c.val) (by have := c.isLt; have : c.val < 4 := this; omega)]
    exact startK m c
  · rw [start3, Nat.zero_add]

/-- A device's values: likewise. -/
theorem v_at (c : Dev nD) (r : Fin 16) (n : Fin 512) (t : Fin 64) : (ins m c).v (ix3 r n t)
    = (m ((c.tc : Thread nD τ).loc main_arg3) : Vec Ideal S2x512x32x64 .bf16)
      (ix4 ⟨r.val / 8, by omega⟩ n ⟨8 * c.val + r.val % 8, by have := c.isLt; have : c.val < 4 := this; omega⟩ t) := by
  unfold ins; dsimp only
  after_reads_at
  refine congrArg (V0 m c (Proc.tc.devRef main_arg3)) (ix4_congr ?_ ?_ ?_ ?_) <;> dsimp only
  · rw [start0, Nat.zero_add]
  · rw [start1, Nat.zero_add]
  · rw [start2 _ _ (8 * c.val) (by have := c.isLt; have : c.val < 4 := this; omega)]
    exact startV m c
  · rw [start3, Nat.zero_add]

/-- The mask's array holds 0 where a query sees a key and 1 where it does not. -/
theorem b_eq (c : Dev nD) : (ins m c).b
    = select mask (broadcastInDim S512x512 ![] bcast_S_S512x512 (constant (F := Ideal) S_ FTy.f32 0#32))
        (broadcastInDim S512x512 ![] bcast_S_S512x512 (constant (F := Ideal) S_ FTy.f32 1065353216#32)) := by
  unfold ins; dsimp only
  after_reads_simp
  simp -implicitDefEqProofs only [StableHlo.TRef.toBuf, StableHlo.TRef.ofBuf, cast_cast, cast_eq]
  rfl

theorem b_at (c : Dev nD) (i j : Fin 512) : (ins m c).b (ix2 i j) = Scalar.select (mask (ix2 i j)) (0 : EReal) 1 := by
  rw [b_eq]
  pointwise

end Cert.Fused

end
-- ==== Proof.Softmax.lean ====
/-
  Attention over the extended reals: exponentials divided by their sum, with and without subtracting the largest score.
-/
module

public import Idealize.ShloMosaic.PureOps.Ideal
public import Idealize.ShloMosaic.PureOps.Ideal.Laws
public import Mathlib.Data.EReal.Operations
public import Mathlib.Algebra.BigOperators.Fin

@[expose] public section

noncomputable section

namespace Cert.Softmax

open Idealize.ShloMosaic

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative goes into a sum, whatever the summands. -/
theorem sum_mul_coe {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    rw [mul_comm, EReal.left_distrib_of_nonneg_of_ne_top (EReal.coe_nonneg.2 hc) (EReal.coe_ne_top c), mul_comm, mul_comm (c : EReal)]

/-- A mask's entry, as a bit, selects. -/
theorem bit (b : BitVec 1) : b = 1#1 ∨ b = 0#1 := by revert b; decide

/-- The exponential of a masked score: the kernel adds minus infinity where the mask hides a key. -/
theorem exp_added (s : ℝ) (b : BitVec 1) :
    Ideal.exp ((s : EReal) + Scalar.select b (0 : EReal) 1 * ⊥) = ((if b = 1#1 then Real.exp s else 0 : ℝ) : EReal) := by
  rcases bit b with rfl | rfl
  · show Ideal.exp ((s : EReal) + 0 * ⊥) = _
    rw [zero_mul, add_zero, Ideal.exp_coe, if_pos rfl]
  · show Ideal.exp ((s : EReal) + 1 * ⊥) = _
    rw [one_mul, EReal.add_bot, Ideal.exp_bot, if_neg (by decide), EReal.coe_zero]

/-- The exponential of a masked score less a real: the reference puts minus infinity where the mask hides a key. -/
theorem exp_selected (s μ : ℝ) (b : BitVec 1) :
    Ideal.exp (Scalar.select b (s : EReal) ⊥ - (μ : EReal)) = (((if b = 1#1 then Real.exp s else 0) * Real.exp (-μ) : ℝ) : EReal) := by
  rcases bit b with rfl | rfl
  · show Ideal.exp ((s : EReal) - (μ : EReal)) = _
    rw [← EReal.coe_sub, Ideal.exp_coe, if_pos rfl, sub_eq_add_neg, Real.exp_add]
  · show Ideal.exp (⊥ - (μ : EReal)) = _
    rw [EReal.bot_sub, Ideal.exp_bot, if_neg (by decide), zero_mul, EReal.coe_zero]

/-- The largest of the masked scores is a real, since some key is seen. -/
theorem largest {n : Nat} (s : Fin n → ℝ) (M : Fin n → BitVec 1) (j₀ : Fin n) (h : M j₀ = 1#1) :
    ∃ μ : ℝ, (Finset.univ.fold max (⊥ : EReal) fun j => Scalar.select (M j) (s j : EReal) ⊥) = (μ : EReal) := by
  have top : (Finset.univ.fold max (⊥ : EReal) fun j => Scalar.select (M j) (s j : EReal) ⊥) ≠ ⊤ := by
    refine ne_of_lt ((Finset.fold_max_lt _).2 ⟨bot_lt_top, fun j _ => ?_⟩)
    rcases bit (M j) with e | e <;> rw [e]
    · exact EReal.coe_lt_top _
    · exact bot_lt_top
  have bot : (Finset.univ.fold max (⊥ : EReal) fun j => Scalar.select (M j) (s j : EReal) ⊥) ≠ ⊥ := by
    refine ne_of_gt ((Finset.lt_fold_max _).2 (Or.inr ⟨j₀, Finset.mem_univ _, ?_⟩))
    rw [h]
    exact EReal.bot_lt_coe _
  exact ⟨_, (EReal.coe_toReal top bot).symm⟩

/-- Attention two ways. Left: weighted values over the sum of the weights, the weights being exponentials of the masked scores. Right: values times probabilities,
    these being exponentials of the masked scores less the largest, over their sum. The scores are reals and some key is seen; the values are any extended reals. -/
theorem attention {n : Nat} (s : Fin n → ℝ) (M : Fin n → BitVec 1) (v : Fin n → EReal) (j₀ : Fin n) (h : M j₀ = 1#1) :
    Ideal.div (∑ j, Ideal.exp ((s j : EReal) + Scalar.select (M j) (0 : EReal) 1 * ⊥) * v j)
        (∑ j, Ideal.exp ((s j : EReal) + Scalar.select (M j) (0 : EReal) 1 * ⊥))
      = ∑ j, v j * Ideal.div
          (Ideal.exp (Scalar.select (M j) (s j : EReal) ⊥ - Finset.univ.fold max (⊥ : EReal) fun k => Scalar.select (M k) (s k : EReal) ⊥))
          (∑ i, Ideal.exp (Scalar.select (M i) (s i : EReal) ⊥ - Finset.univ.fold max (⊥ : EReal) fun k => Scalar.select (M k) (s k : EReal) ⊥)) := by
  obtain ⟨μ, hμ⟩ := largest s M j₀ h
  rw [hμ]
  simp only [exp_added, exp_selected]
  generalize ha : (fun j => if M j = 1#1 then Real.exp (s j) else 0) = a
  have e : ∀ j, (if M j = 1#1 then Real.exp (s j) else 0) = a j := fun j => congrFun ha j
  simp only [e]
  have nonneg : ∀ j, 0 ≤ a j := fun j => by
    rw [← e]; split
    · exact (Real.exp_pos _).le
    · exact le_rfl
  have pos : 0 < ∑ j, a j := by
    refine Finset.sum_pos' (fun j _ => nonneg j) ⟨j₀, Finset.mem_univ _, ?_⟩
    rw [← e, if_pos h]; exact Real.exp_pos _
  have pos' : 0 < ∑ j, a j * Real.exp (-μ) := by rw [← Finset.sum_mul]; exact mul_pos pos (Real.exp_pos _)
  rw [← coe_sum, ← coe_sum, Ideal.div_coe pos.ne', sum_mul_coe _ _ _ (by positivity)]
  refine Finset.sum_congr rfl fun j _ => ?_
  rw [Ideal.div_coe pos'.ne', mul_comm (a j : EReal), mul_assoc, ← EReal.coe_mul, ← EReal.coe_mul, ← Finset.sum_mul]
  refine congrArg (fun r : ℝ => v j * (r : EReal)) ?_
  have := pos.ne'
  have := (Real.exp_pos (-μ)).ne'
  field_simp

/-- A score two ways: the queries' weights scaled by 1/8, or the score; of reals, the two are one real. -/
theorem score {ι κ : Type} [Fintype ι] [Fintype κ] (x : ι → EReal) (w : ι → κ → EReal) (k : κ → EReal) (hx : ∀ i, ∃ r : ℝ, x i = r)
    (hw : ∀ i t, ∃ r : ℝ, w i t = r) (hk : ∀ t, ∃ r : ℝ, k t = r) (c : ℝ) :
    ∃ s : ℝ, (∑ t, (∑ i, x i * (w i t * (c : EReal))) * k t) = (s : EReal) ∧ (∑ t, (∑ i, x i * w i t) * k t) * (c : EReal) = (s : EReal) := by
  choose x' hx using hx
  choose w' hw using hw
  choose k' hk using hk
  refine ⟨∑ t, (∑ i, x' i * (w' i t * c)) * k' t, ?_, ?_⟩
  · simp only [hx, hw, hk, ← EReal.coe_mul, ← coe_sum]
  · simp only [hx, hw, hk, ← EReal.coe_mul, ← coe_sum]
    refine congrArg (fun r : ℝ => (r : EReal)) ?_
    rw [Finset.sum_mul]
    refine Finset.sum_congr rfl fun t _ => ?_
    rw [Finset.sum_mul, Finset.sum_mul, Finset.sum_mul]
    exact Finset.sum_congr rfl fun i _ => by ring

/-- A number whose absolute value is below infinity is a real. -/
theorem real_of_abs (a : EReal) (h : Ideal.cmp .olt (max a (-a)) ⊤ = 1#1) : ∃ r : ℝ, a = r := by
  induction a with
  | bot => exact absurd h (by simp [Ideal.cmp])
  | top => exact absurd h (by simp [Ideal.cmp])
  | coe r => exact ⟨r, rfl⟩

/-- A sum over 2048 rows, device by device. -/
theorem sum_devices (f : Fin 2048 → EReal) : (∑ r, f r) = ∑ p : Fin 4, ∑ l : Fin 512, f ⟨512 * p.val + l.val, by omega⟩ := by
  rw [← (finProdFinEquiv (m := 4) (n := 512)).sum_comp f, Fintype.sum_prod_type]
  refine Finset.sum_congr rfl fun p _ => Finset.sum_congr rfl fun l _ => congrArg f (Fin.ext ?_)
  exact Nat.add_comm _ _

end Cert.Softmax

end
-- ==== Proof.Reference.lean ====
/-
  What the reference computes, read over the extended reals one element at a time.
-/
module

public import proofs.«01_k».proof.Proof.Host
public import proofs.«01_k».proof.Proof.Gen.ReferenceIdeal.Run
public import Idealize.ShloMosaic.Lib.Pointwise
public import Idealize.ShloMosaic.Lib.Routing.OpsOrder

@[expose] public section

set_option maxRecDepth 16384

noncomputable section

namespace Cert.Plain

open Cert.ReferenceIdeal Cert.ReferenceIdeal.Gen
open Idealize.ShloMosaic

/-! ## The reference's steps -/

/-- The queries of all heads. -/
def queries (x : Vec Ideal S2x512x768 .bf16) (wq : Vec Ideal S768x2048 .bf16) : FVec Ideal S2x512x32x64 .bf16 :=
  shapeCast _ (truncf .bf16 (Host.dotGeneral (F := Ideal) (φ₁ := .bf16) (φ₂ := .bf16) dot_S2x512x768_S768x2048_S2x512x2048_2_0_01_1_n_n none x wq : FVec Ideal S2x512x2048 .f32) bitsLt_bf16_f32)
    shapeCasts_S2x512x2048_S2x512x32x64

/-- The masked scores of all heads. -/
def scores (M : IVec S512x512 1) (q k : FVec Ideal S2x512x32x64 .bf16) : FVec Ideal S2x32x512x512 .f32 :=
  select (broadcastInDim S2x32x512x512 ![0, 1, 2, 3] bcast_S1x1x512x512_S2x32x512x512_0_1_2_3 (broadcastInDim S1x1x512x512 ![2, 3] bcast_S512x512_S1x1x512x512_2_3 M))
    (mulf (extf .f32 (truncf .bf16 (Host.dotGeneral (F := Ideal) dot_S2x512x32x64_S2x512x32x64_S2x32x512x512_3_3_1_1_02_02 none q k : FVec Ideal S2x32x512x512 .f32)
      bitsLt_bf16_f32) bitsLt_bf16_f32) (broadcastInDim S2x32x512x512 ![] bcast_S_S2x32x512x512 (constant S_ .f32 0x3E000000#32)))
    (broadcastInDim S2x32x512x512 ![] bcast_S_S2x32x512x512 (id (constant S_ .f32 0xFF800000#32)))

/-- The exponentials of the scores less their largest. -/
def powers (s : FVec Ideal S2x32x512x512 .f32) : FVec Ideal S2x32x512x512 .f32 :=
  Host.exp (subf s (broadcastInDim S2x32x512x512 ![0, 1, 2, 3] bcast_S2x32x512x1_S2x32x512x512_0_1_2_3
    (broadcastInDim S2x32x512x1 ![0, 1, 2] bcast_S2x32x512_S2x32x512x1_0_1_2
      (Host.reduce FloatOps.maximumf s (constant S_ .f32 0xFF800000#32) reducesTo_S2x32x512x512_S2x32x512_d3 h_S_))))

/-- Whether a query sees any key. -/
def keep (M : IVec S512x512 1) : IVec S1x1x512x1 1 :=
  broadcastInDim S1x1x512x1 ![2] bcast_S512_S1x1x512x1_2 (Host.reduce IntOp.ori M (constantI S_ 1 0#1) reducesTo_S512x512_S512_d1 h_S_)

/-- The attention probabilities. -/
def probs (M : IVec S512x512 1) (w : FVec Ideal S2x32x512x512 .f32) : FVec Ideal S2x32x512x512 .f32 :=
  select (broadcastInDim S2x32x512x512 ![0, 1, 2, 3] bcast_S1x1x512x1_S2x32x512x512_0_1_2_3 (keep M))
    (Host.divf w (broadcastInDim S2x32x512x512 ![0, 1, 2, 3] bcast_S2x32x512x1_S2x32x512x512_0_1_2_3
      (select (broadcastInDim S2x32x512x1 ![0, 1, 2, 3] bcast_S1x1x512x1_S2x32x512x1_0_1_2_3 (keep M))
        (broadcastInDim S2x32x512x1 ![0, 1, 2] bcast_S2x32x512_S2x32x512x1_0_1_2
          (Host.reduceAdd w (constant S_ .f32 0x00000000#32) reducesTo_S2x32x512x512_S2x32x512_d3 h_S_))
        (broadcastInDim S2x32x512x1 ![] bcast_S_S2x32x512x1 (id (constant S_ .f32 0x3F800000#32))))))
    (broadcastInDim S2x32x512x512 ![] bcast_S_S2x32x512x512 (id (constant S_ .f32 0x00000000#32)))

/-- The output: the heads' context times the output projection. -/
def output (p : FVec Ideal S2x32x512x512 .f32) (v : Vec Ideal S2x512x32x64 .bf16) (wo : Vec Ideal S2048x768 .bf16) : FVec Ideal S2x512x768 .f32 :=
  Host.dotGeneral (F := Ideal) dot_S2x512x2048_S2048x768_S2x512x768_2_0_01_1_n_n none
    (shapeCast _ (transpose S2x512x32x64 [0, 3, 1, 2]
      (Host.dotGeneral (F := Ideal) dot_S2x512x32x64_S2x32x512x512_S2x32x64x512_1_3_3_2_02_01 none (extf .f32 v bitsLt_bf16_f32) p : FVec Ideal S2x32x64x512 .f32)
      transposes_S2x32x64x512_S2x512x32x64_0_3_1_2) shapeCasts_S2x512x32x64_S2x512x2048)
    (extf .f32 wo bitsLt_bf16_f32)

set_option maxHeartbeats 20000000 in
/-- The reference's result is these steps, one after the other, with the mask that the kernel's host code makes. -/
theorem value_eq (m : (ℓ : Loc nD τ sig) → Buf (Elt Ideal) ℓ) (c : Dev nD) :
    Value.res_main_v49 (F := Ideal) m c
      = output (probs Fused.mask (powers (scores Fused.mask
          (queries (m ((c.tc : Thread nD τ).loc main_arg0)) (m ((c.tc : Thread nD τ).loc main_arg1))) (m ((c.tc : Thread nD τ).loc main_arg2)))))
          (m ((c.tc : Thread nD τ).loc main_arg3)) (m ((c.tc : Thread nD τ).loc main_arg4)) := rfl

/-! ## Their elements -/

theorem negInf : Ideal.ofBits .f32 0xFF800000#32 = ⊥ := by simp [Ideal.ofBits, Ideal.ieee]

theorem queries_at (x : Vec Ideal S2x512x768 .bf16) (wq : Vec Ideal S768x2048 .bf16) (b : Fin 2) (i : Fin 512) (h : Fin 32) (t : Fin 64) :
    queries x wq (ix4 b i h t) = ∑ e : Fin 768, x (ix3 b i e) * wq (ix2 e ⟨h.val * 64 + t.val, by omega⟩) := by
  pointwise [queries]

theorem scores_at (M : IVec S512x512 1) (q k : FVec Ideal S2x512x32x64 .bf16) (b : Fin 2) (h : Fin 32) (i j : Fin 512) :
    scores M q k (ix4 b h i j)
      = Scalar.select (M (ix2 i j)) ((∑ t : Fin 64, q (ix4 b i h t) * k (ix4 b j h t)) * (Ideal.ofBits FTy.f32 0x3E000000#32 : EReal)) (⊥ : EReal) := by
  pointwise [scores]
  exact congrArg _ negInf

theorem powers_at (s : FVec Ideal S2x32x512x512 .f32) (b : Fin 2) (h : Fin 32) (i j : Fin 512) :
    powers s (ix4 b h i j) = Ideal.exp (s (ix4 b h i j) - Finset.univ.fold max (⊥ : EReal) fun k : Fin 512 => s (ix4 b h i k)) := by
  pointwise [powers]
  rw [negInf]

theorem keep_at (M : IVec S512x512 1) (i : Fin 512) (hM : M (ix2 i 0) = 1#1) : keep M (ix4 0 0 i 0) = 1#1 := by
  pointwise [keep]
  exact (Routing.fold_ori _ _).2 ⟨0, Finset.mem_univ _, hM⟩

theorem probs_at (M : IVec S512x512 1) (w : FVec Ideal S2x32x512x512 .f32) (b : Fin 2) (h : Fin 32) (i j : Fin 512) (hM : M (ix2 i 0) = 1#1) :
    probs M w (ix4 b h i j) = Ideal.div (w (ix4 b h i j)) (∑ k : Fin 512, w (ix4 b h i k)) := by
  pointwise [probs]
  rw [keep_at M i hM]
  rfl

theorem output_at (p : FVec Ideal S2x32x512x512 .f32) (v : Vec Ideal S2x512x32x64 .bf16) (wo : Vec Ideal S2048x768 .bf16) (b : Fin 2) (i : Fin 512) (n : Fin 768) :
    output p v wo (ix3 b i n)
      = ∑ r : Fin 2048, (∑ j : Fin 512, v (ix4 b j ⟨r.val / 64, by omega⟩ ⟨r.val % 64, by omega⟩) * p (ix4 b ⟨r.val / 64, by omega⟩ i j)) * wo (ix2 r n) := by
  pointwise [output]

end Cert.Plain

end
-- ==== Proof.Equation.lean ====
/-
  Over the extended reals, what every device of the kernel ends with is what the reference computes.
-/
module

public import proofs.«01_k».proof.Proof.Value
public import proofs.«01_k».proof.Proof.Host
public import proofs.«01_k».proof.Proof.Softmax
public import proofs.«01_k».proof.Proof.Reference
public import Idealize.ShloMosaic.Lib.StableHlo.ReadAt
public import Idealize.ShloMosaic.Lib.Pointwise
public import Idealize.ShloMosaic.Lib.Layout

@[expose] public section

set_option maxRecDepth 16384

noncomputable section

namespace Cert.Fused

open Cert.KernelIdeal Cert.KernelIdeal.Gen
open Idealize.ShloMosaic

variable (m : (ℓ : Loc nD τ sig) → Buf (Elt Ideal) ℓ)

/-! ## The kernel's arguments -/

def argX (c : Dev nD) : Vec Ideal S2x512x768 .bf16 := m ((c.tc : Thread nD τ).loc main_arg0)
def argK (c : Dev nD) : Vec Ideal S2x512x32x64 .bf16 := m ((c.tc : Thread nD τ).loc main_arg2)
def argV (c : Dev nD) : Vec Ideal S2x512x32x64 .bf16 := m ((c.tc : Thread nD τ).loc main_arg3)
def argWo (c : Dev nD) : Vec Ideal S512x768 .bf16 := m ((c.tc : Thread nD τ).loc main_arg4)

/-- 1/8 as the kernel writes it. -/
theorem eighth_bf16 : Ideal.ofBits .bf16 15872#16 = (((1 : ℝ) / 8 : ℝ) : EReal) := by
  simp [Ideal.ofBits, Ideal.ieee, -EReal.coe_mul]; norm_num

/-- 1/8 as the reference writes it. -/
theorem eighth_f32 : Ideal.ofBits .f32 0x3E000000#32 = (((1 : ℝ) / 8 : ℝ) : EReal) := by
  simp [Ideal.ofBits, Ideal.ieee, -EReal.coe_mul]; norm_num

/-- Infinity as the precondition writes it. -/
theorem posInf : Ideal.ofBits .f32 0x7F800000#32 = ⊤ := by simp [Ideal.ofBits, Ideal.ieee]

/-! ## The kernel's result -/

/-- The result's rows are the staged result's, sequence by sequence. -/
theorem result_at (c : Dev nD) (b : Fin 2) (i : Fin 512) (n : Fin 768) :
    (V11 m (outs m) c (Proc.devRef .tc main_v45) : FVec Ideal S2x512x768 .f32) (ix3 b i n)
      = ∑ p : Fin 4, part (ins m p) (⟨2 * b.val + i.val / 256, by show _ < 4; omega⟩ : Fin 4) (ix2 ⟨i.val % 256, by omega⟩ n) := by
  have e : (V11 m (outs m) c (Proc.devRef .tc main_v45) : FVec Ideal S2x512x768 .f32) (ix3 b i n)
      = resultOf (ins m) c (ix2 ⟨b.val * 512 + i.val, by omega⟩ n) := by
    rw [← outs_result]
    unfold V11
    after_reads_at
    unfold V10
    rw [Function.update_self]
  rw [e, ← kept_at (ins m) c]
  unfold resultOf
  have e0 : blockOf (ix2 (⟨b.val * 512 + i.val, by omega⟩ : Fin 1024) n) = (⟨2 * b.val + i.val / 256, by show _ < 4; omega⟩ : Fin 4) :=
    Fin.ext (by show (b.val * 512 + i.val) / 256 = 2 * b.val + i.val / 256; omega)
  have e1 : within (ix2 (⟨b.val * 512 + i.val, by omega⟩ : Fin 1024) n) = ix2 ⟨i.val % 256, by omega⟩ n := by
    funext a
    match a with
    | 0 => exact Fin.ext (by show (b.val * 512 + i.val) % 256 = i.val % 256; omega)
    | 1 => rfl
  rw [e0, e1]

/-- The score that device `p`'s head `h` gives a key, before the mask. -/
def kernelScore (p : Dev nD) (b : Fin 2) (i : Fin 512) (h : Fin 8) (j : Fin 512) : EReal :=
  ∑ t : Fin 64, (∑ e : Fin 768, argX m p (ix3 b i e) * (argWq m p (ix2 e ⟨64 * h.val + t.val, by omega⟩) * (((1 : ℝ) / 8 : ℝ) : EReal)))
    * argK m p (ix4 b j ⟨8 * p.val + h.val, by have := p.isLt; have : p.val < 4 := this; omega⟩ t)

/-- A device's part, down to the arguments. -/
theorem parts_at (p d : Dev nD) (b : Fin 2) (i : Fin 512) (n : Fin 768) (r : Fin 256) (hd : d.val = 2 * b.val + i.val / 256) (hr : r.val = i.val % 256) :
    part (ins m p) d (ix2 r n)
      = ∑ l : Fin 512, Ideal.div
          (∑ j : Fin 512, Ideal.exp (kernelScore m p b i ⟨l.val / 64, by omega⟩ j + Scalar.select (mask (ix2 i j)) (0 : EReal) 1 * ⊥)
            * argV m p (ix4 b j ⟨8 * p.val + l.val / 64, by have := p.isLt; have : p.val < 4 := this; omega⟩ ⟨l.val % 64, by omega⟩))
          (∑ j : Fin 512, Ideal.exp (kernelScore m p b i ⟨l.val / 64, by omega⟩ j + Scalar.select (mask (ix2 i j)) (0 : EReal) 1 * ⊥))
          * argWo m p (ix2 l n) := by
  have hp : p.val < 4 := p.isLt
  unfold part
  rw [chunk_at]
  refine Finset.sum_congr rfl fun l _ => ?_
  rw [heads_at _ _ _ _ r ⟨l.val / 64, by omega⟩ ⟨l.val % 64, by omega⟩ l (by dsimp only; omega), ctx_at, wo_at]
  have w : ∀ j, wts (k0_pay1 (rowsX (ins m p).x d) (ins m p).wq) (k0_pay2 (rowsB (ins m p).b d)) (headK (ins m p).k d ⟨l.val / 64, by omega⟩)
      ⟨l.val / 64, by omega⟩ (ix2 r j)
      = Ideal.exp (kernelScore m p b i ⟨l.val / 64, by omega⟩ j + Scalar.select (mask (ix2 i j)) (0 : EReal) 1 * ⊥) := by
    intro j
    rw [wts_at, bias_at, rowsB_at, b_at]
    refine congrArg Ideal.exp (congr (congrArg HAdd.hAdd ?_) ?_)
    · refine Finset.sum_congr rfl fun t _ => ?_
      rw [query_at, headK_at, k_at]
      refine congr (congrArg HMul.hMul ?_) ?_
      · refine Finset.sum_congr rfl fun e _ => ?_
        rw [rowsX_at, x_at, wq_at, eighth_bf16]
        refine congrArg (· * _) (congrArg (argX m p) ?_)
        have : (256 * d.val + r.val) / 512 = b.val := by omega
        have : (256 * d.val + r.val) % 512 = i.val := by omega
        congr 1 <;> exact Fin.ext (by assumption)
      · refine congrArg (argK m p) (ix4_congr ?_ rfl ?_ rfl) <;> dsimp only <;> omega
    · refine congrArg (fun q : Fin 512 => Scalar.select (mask (ix2 q j)) (0 : EReal) 1 * ⊥) (Fin.ext ?_)
      dsimp only; omega
  refine congrArg (· * _) (congr (congrArg Ideal.div ?_) ?_)
  · refine Finset.sum_congr rfl fun j _ => congr (congrArg HMul.hMul (w j)) ?_
    rw [headV_at, v_at]
    refine congrArg (argV m p) (ix4_congr ?_ rfl ?_ rfl) <;> dsimp only <;> omega
  · exact Finset.sum_congr rfl fun j _ => w j

/-- Every device's result is the reference's, where the activations, the query weights and the keys are finite: each device holds its own columns of the query weights
    and its own rows of the output projection, and the other arguments whole. -/
theorem equation (X : Vec Ideal S2x512x768 .bf16) (Wq : Vec Ideal Cert.ReferenceIdeal.S768x2048 .bf16) (K V : Vec Ideal S2x512x32x64 .bf16)
    (Wo : Vec Ideal Cert.ReferenceIdeal.S2048x768 .bf16)
    (hx : ∀ p, argX m p = X) (hk : ∀ p, argK m p = K) (hv : ∀ p, argV m p = V)
    (hwq : ∀ (p : Fin 4) (e : Fin 768) (l : Fin 512), argWq m p (ix2 e l) = Wq (ix2 e ⟨512 * p.val + l.val, by omega⟩))
    (hwo : ∀ (p : Fin 4) (l : Fin 512) (n : Fin 768), argWo m p (ix2 l n) = Wo (ix2 ⟨512 * p.val + l.val, by omega⟩ n))
    (fx : ∀ (p : Fin 4) y, ∃ r : ℝ, (argX m p y : EReal) = r) (fwq : ∀ (p : Fin 4) y, ∃ r : ℝ, (argWq m p y : EReal) = r)
    (fk : ∀ (p : Fin 4) y, ∃ r : ℝ, (argK m p y : EReal) = r) (c : Dev nD) :
    (V11 m (outs m) c (Proc.devRef .tc main_v45) : FVec Ideal S2x512x768 .f32)
      = Plain.output (Plain.probs mask (Plain.powers (Plain.scores mask (Plain.queries X Wq) K))) V Wo := by
  funext y
  idx_vars y
  revert y0 y1 y2
  intro b i n
  refine (result_at m c b i n).trans (show (_ : EReal) = _ from ?_)
  rw [Plain.output_at, Softmax.sum_devices]
  refine Finset.sum_congr rfl fun p _ => ?_
  rw [parts_at m p _ b i n _ rfl rfl]
  refine Finset.sum_congr rfl fun l _ => ?_
  rw [hwo]
  refine congrArg (· * _) ?_
  have hp : p.val < 4 := p.isLt
  obtain ⟨h, hh⟩ : ∃ h : Fin 8, h = ⟨l.val / 64, by omega⟩ := ⟨_, rfl⟩
  obtain ⟨H, hH⟩ : ∃ H : Fin 32, H = ⟨8 * p.val + l.val / 64, by omega⟩ := ⟨_, rfl⟩
  obtain ⟨t, ht⟩ : ∃ t : Fin 64, t = ⟨l.val % 64, by omega⟩ := ⟨_, rfl⟩
  have eH : (⟨(512 * p.val + l.val) / 64, by omega⟩ : Fin 32) = H := by rw [hH]; exact Fin.ext (by dsimp only; omega)
  have et : (⟨(512 * p.val + l.val) % 64, by omega⟩ : Fin 64) = t := by rw [ht]; exact Fin.ext (by dsimp only; omega)
  dsimp only
  rw [eH, et, ← hh, ← hH, ← ht, hv]
  have sc : ∀ j : Fin 512, ∃ s : ℝ, kernelScore m p b i h j = (s : EReal)
      ∧ (∑ t : Fin 64, (Plain.queries X Wq (ix4 b i H t) * K (ix4 b j H t) : EReal)) * (Ideal.ofBits FTy.f32 0x3E000000#32 : EReal) = (s : EReal) := by
    intro j
    obtain ⟨s, h1, h2⟩ := Softmax.score (fun e : Fin 768 => (argX m p (ix3 b i e) : EReal))
      (fun (e : Fin 768) (t : Fin 64) => (argWq m p (ix2 e ⟨64 * h.val + t.val, by omega⟩) : EReal)) (fun t : Fin 64 => (argK m p (ix4 b j H t) : EReal))
      (fun e => fx p _) (fun e t => fwq p _) (fun t => fk p _) (1 / 8)
    refine ⟨s, ?_, ?_⟩
    · rw [← h1]
      unfold kernelScore
      refine Finset.sum_congr rfl fun t _ => congrArg (_ * ·) (congrArg (argK m p) (ix4_congr rfl rfl ?_ rfl))
      rw [hH, hh]
    · rw [← h2, eighth_f32]
      refine congrArg (· * _) (Finset.sum_congr rfl fun t _ => ?_)
      rw [Plain.queries_at, hk]
      refine congrArg (· * _) (Finset.sum_congr rfl fun e _ => ?_)
      rw [hx, hwq]
      refine congrArg (fun q : Fin 2048 => (X (ix3 b i e) * Wq (ix2 e q) : EReal)) (Fin.ext ?_)
      have hh' : h.val = l.val / 64 := congrArg Fin.val hh
      have hH' : H.val = 8 * p.val + l.val / 64 := congrArg Fin.val hH
      show H.val * 64 + t.val = 512 * p.val + (64 * h.val + t.val)
      omega
  choose s h1 h2 using sc
  have first := mask_first i
  simp only [h1]
  rw [Softmax.attention s (fun j => mask (ix2 i j)) (fun j => V (ix4 b j H t)) 0 first]
  refine Finset.sum_congr rfl fun j _ => congrArg (_ * ·) ?_
  rw [Plain.probs_at _ _ _ _ _ _ first]
  simp only [Plain.powers_at, Plain.scores_at, h2]

end Cert.Fused

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Words
public import proofs.«01_k».proof.Proof.Equation
public import Idealize.ShloMosaic.Adequacy
public import Idealize.ShloMosaic.Init

@[expose] public section

noncomputable section

namespace Cert.Proof

open Idealize.ShloMosaic Idealize.SL.Sem

open Cert.Words in
/-- The kernel runs on the four devices, its arguments unchanged and every counter at zero. -/
theorem frame_kernel : Cert.quiescent_Kernel (hKernel := Cert.Kernel.Gen.facts) := by
  intro m ρ _
  refine Cert.Words.run_words ?_
  exact (θ_run Cert.KernelIdeal.defs _ _).mono (fun _ h => ⟨fun c => (h.1 c).1, h.2⟩) (Cert.Fused.run_main (F := Bits) m ρ)

/-- So does its ideal program. -/
theorem frame_ideal : Cert.quiescent_KernelIdeal (hKernelIdeal := Cert.KernelIdeal.Gen.facts) := fun m ρ _ =>
  (θ_run Cert.KernelIdeal.defs _ _).mono (fun _ h => ⟨fun c => (h.1 c).1, h.2⟩) (Cert.Fused.run_main (F := Ideal) m ρ)

/-- The reference runs, its arguments unchanged. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩) (Cert.ReferenceIdeal.Value.run (F := Ideal) m ρ)

/-- The side conditions of the precondition read of a device's blocks, -/
theorem finite_kernel : Cert.Pre_finite_KernelIdeal.Facts := ⟨by decide, by decide, by decide, by decide⟩
/-- and read of the whole arrays. -/
theorem finite_reference : Cert.Pre_finite_ReferenceIdeal.Facts := ⟨by decide, by decide, by decide, by decide⟩

/-- With finite activations, query weights and keys, every device ends with the reference's result. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := finite_kernel) := by
  intro m ρ m' ρ' fin same
  have real : ∀ a : EReal, Ideal.cmp .olt (max a (-a)) (Ideal.ofBits .f32 0x7F800000#32) = 1#1 → ∃ r : ℝ, a = r := fun a h =>
    Cert.Softmax.real_of_abs a (by rw [← Cert.Fused.posInf]; exact h)
  have eq := Cert.Fused.equation m _ _ _ (fun p => (same p).1) (fun p => (same p).2.2.1) (fun p => (same p).2.2.2.1)
    (Wq := m' (((0 : Dev Cert.ReferenceIdeal.nD).tc : Thread Cert.ReferenceIdeal.nD Cert.ReferenceIdeal.τ).loc Cert.ReferenceIdeal.main_arg1))
    (Wo := m' (((0 : Dev Cert.ReferenceIdeal.nD).tc : Thread Cert.ReferenceIdeal.nD Cert.ReferenceIdeal.τ).loc Cert.ReferenceIdeal.main_arg4))
    (fun p e l => (congrFun (same p).2.1 (ix2 e l)).trans (congrArg (m' (((0 : Dev Cert.ReferenceIdeal.nD).tc : Thread Cert.ReferenceIdeal.nD
      Cert.ReferenceIdeal.τ).loc Cert.ReferenceIdeal.main_arg1)) (funext fun a => Fin.ext (match a with
        | 0 => rfl
        | 1 => (by show p.val * 512 + l.val = 512 * p.val + l.val; omega)))))
    (fun p l n => (congrFun (same p).2.2.2.2 (ix2 l n)).trans (congrArg (m' (((0 : Dev Cert.ReferenceIdeal.nD).tc : Thread Cert.ReferenceIdeal.nD
      Cert.ReferenceIdeal.τ).loc Cert.ReferenceIdeal.main_arg4)) (funext fun a => Fin.ext (match a with
        | 0 => (by show p.val * 512 + l.val = 512 * p.val + l.val; omega)
        | 1 => rfl))))
    (fun p y => real _ (congrFun (fin p).1 y)) (fun p y => real _ (congrFun (fin p).2.1 y)) (fun p y => real _ (congrFun (fin p).2.2 y))
  refine ⟨Cert.ReferenceIdeal.Value.res_main_v49 (F := Ideal) m' 0, ?_, ?_⟩
  · refine (θ_run Cert.KernelIdeal.defs _ _).mono (fun _ h c => ⟨(h.1 c).2.trans ?_, (h.1 c).1⟩) (Cert.Fused.run_main (F := Ideal) m ρ)
    exact (eq c).trans (Cert.Plain.value_eq m' 0).symm
  · exact (θ_run Cert.ReferenceIdeal.defs _ _).mono (fun _ h => h 0) (Cert.ReferenceIdeal.Value.run (F := Ideal) m' ρ')

/-- The certificate's claims together. -/
theorem claim : Cert.Claim := ⟨Cert.Kernel.Gen.facts, Cert.KernelIdeal.Gen.facts, Cert.ReferenceIdeal.Gen.facts, finite_kernel, finite_reference,
  frame_kernel, frame_ideal, fun m ρ _ => frame_ideal m ρ trivial, frame_reference, fun m ρ _ => frame_reference m ρ trivial,
  IdealRules.named_const.statement Cert.KernelIdeal.κ "mask" .f32 0xCE6E6B28#32 ⊥ rfl, algebraic⟩

end Cert.Proof

end
